-- ==== Defs.lean ====
def Pre_Kernel [hPre_csr_structure : Cert.Pre_csr_structure.Facts] (m : (ℓ : Loc Cert.Kernel.nD Cert.Kernel.τ Cert.Kernel.sig) → Buf (Elt Bits) ℓ) : Prop :=
  ∀ c : Dev Cert.Kernel.nD,
    (Cert.Pre_csr_structure.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_csr_structure.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2 = (fun _ => 1#1)

def Pre_KernelIdeal [hPre_csr_structure : Cert.Pre_csr_structure.Facts] (m : (ℓ : Loc Cert.KernelIdeal.nD Cert.KernelIdeal.τ Cert.KernelIdeal.sig) → Buf (Elt Ideal) ℓ) : Prop :=
  ∀ c : Dev Cert.KernelIdeal.nD,
    (Cert.Pre_csr_structure.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_csr_structure.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal [hPre_csr_structure : Cert.Pre_csr_structure.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_csr_structure.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_csr_structure.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] [hPre_csr_structure : Cert.Pre_csr_structure.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_csr_structure : Cert.Pre_csr_structure.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_csr_structure : Cert.Pre_csr_structure.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_csr_structure : Cert.Pre_csr_structure.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_csr_structure : Cert.Pre_csr_structure.Facts),
    quiescent_Kernel (hKernel := hKernel) (hPre_csr_structure := hPre_csr_structure)
    ∧ quiescent_KernelIdeal (hKernelIdeal := hKernelIdeal) (hPre_csr_structure := hPre_csr_structure)
    ∧ quiescent_ReferenceIdeal (hReferenceIdeal := hReferenceIdeal) (hPre_csr_structure := hPre_csr_structure)
    ∧ preserves_Kernel_KernelIdeal
    ∧ algebraic_KernelIdeal_ReferenceIdeal (hKernelIdeal := hKernelIdeal) (hReferenceIdeal := hReferenceIdeal) (hPre_csr_structure := hPre_csr_structure)
-- ==== Pre_csr_structure.lean ====
abbrev S1024x1024 : Shape := ⟨2, ![1024, 1024]⟩
abbrev S4096x1024 : Shape := ⟨2, ![4096, 1024]⟩
abbrev S4096 : Shape := ⟨1, ![4096]⟩
abbrev S1024x64x64 : Shape := ⟨3, ![1024, 64, 64]⟩
abbrev S1024x4096 : Shape := ⟨2, ![1024, 4096]⟩
abbrev S1024 : Shape := ⟨1, ![1024]⟩
abbrev S65 : Shape := ⟨1, ![65]⟩
abbrev S_ : Shape := ⟨0, ![]⟩

class Facts : Prop where
  bcast_S_S65 : S_.BroadcastsInDim S65 (![] : Fin 0 → Fin S65.rank)
  bcast_S_S1024 : S_.BroadcastsInDim S1024 (![] : Fin 0 → Fin S1024.rank)

variable [Facts]

def fn {F : FTy → Type} [FloatOps F] (main_arg0 : FVec F S1024x1024 .f32) (main_arg1 : FVec F S4096x1024 .f32) (main_arg2 : FVec F S4096 .f32) (main_arg3 : FVec F S1024x64x64 .f32) (main_arg4 : FVec F S4096 .f32) (main_arg5 : FVec F S1024x4096 .f32) (main_arg6 : FVec F S1024 .f32) (main_arg7 : IVec S65 32) (main_arg8 : IVec S1024 32) : IVec S65 1 × IVec S1024 1 :=
  let main_v0 : IVec S65 32 := iotaInDim S65 32 0
  let main_c : IVec S_ 32 := constantI S_ 32 16#32
  let main_v1 : IVec S65 32 := broadcastInDim S65 ![] bcast_S_S65 main_c
  let main_v2 : IVec S65 32 := muli main_v1 main_v0
  let main_v3 : IVec S65 1 := cmpi .eq main_arg7 main_v2
  let main_c_0 : IVec S_ 32 := constantI S_ 32 0#32
  let main_v4 : IVec S1024 32 := broadcastInDim S1024 ![] bcast_S_S1024 main_c_0
  let main_v5 : IVec S1024 1 := cmpi .sge main_arg8 main_v4
  let main_c_1 : IVec S_ 32 := constantI S_ 32 64#32
  let main_v6 : IVec S1024 32 := broadcastInDim S1024 ![] bcast_S_S1024 main_c_1
  let main_v7 : IVec S1024 1 := cmpi .slt main_arg8 main_v6
  let main_v8 : IVec S1024 1 := andi main_v5 main_v7
  (main_v3, main_v8)
-- ==== Kernel.lean ====
abbrev S1024x1024 : Shape := ⟨2, ![1024, 1024]⟩
abbrev S4096x1024 : Shape := ⟨2, ![4096, 1024]⟩
abbrev S4096 : Shape := ⟨1, ![4096]⟩
abbrev S1024x64x64 : Shape := ⟨3, ![1024, 64, 64]⟩
abbrev S1024x4096 : Shape := ⟨2, ![1024, 4096]⟩
abbrev S1024 : Shape := ⟨1, ![1024]⟩
abbrev S65 : Shape := ⟨1, ![65]⟩
abbrev S4096x1 : Shape := ⟨2, ![4096, 1]⟩
abbrev S1x1024 : Shape := ⟨2, ![1, 1024]⟩
abbrev S512x1024 : Shape := ⟨2, ![512, 1024]⟩
abbrev S512x1 : Shape := ⟨2, ![512, 1]⟩
abbrev S128x64x64 : Shape := ⟨3, ![128, 64, 64]⟩
abbrev S256x4096 : Shape := ⟨2, ![256, 4096]⟩
abbrev S1x256 : Shape := ⟨2, ![1, 256]⟩
abbrev S1024x256 : Shape := ⟨2, ![1024, 256]⟩
abbrev S64x64x1024 : Shape := ⟨3, ![64, 64, 1024]⟩
abbrev S1x64x64 : Shape := ⟨3, ![1, 64, 64]⟩
abbrev S64x64 : Shape := ⟨2, ![64, 64]⟩
abbrev S64x1024 : Shape := ⟨2, ![64, 1024]⟩
abbrev S1x64x1024 : Shape := ⟨3, ![1, 64, 1024]⟩
abbrev S1 : Shape := ⟨1, ![1]⟩
abbrev S64x1 : Shape := ⟨2, ![64, 1]⟩

abbrev nBuf : Space → Nat
  | .hbm => 13
  | .vmem => 17
  | .smem => 1
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096, .f32⟩
  | .hbm, ⟨3, _⟩ => ⟨S1024x64x64, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S65, .i32⟩
  | .hbm, ⟨8, _⟩ => ⟨S1024x1024, .bf16⟩
  | .hbm, ⟨9, _⟩ => ⟨S4096x1, .f32⟩
  | .hbm, ⟨10, _⟩ => ⟨S4096x1, .f32⟩
  | .hbm, ⟨11, _⟩ => ⟨S1x1024, .f32⟩
  | .hbm, ⟨12, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1, .f32⟩
  | .local _ .vmem, ⟨4, _⟩ => ⟨S512x1, .f32⟩
  | .local _ .vmem, ⟨5, _⟩ => ⟨S128x64x64, .f32⟩
  | .local _ .vmem, ⟨6, _⟩ => ⟨S128x64x64, .f32⟩
  | .local _ .vmem, ⟨7, _⟩ => ⟨S4096x1, .f32⟩
  | .local _ .vmem, ⟨8, _⟩ => ⟨S256x4096, .f32⟩
  | .local _ .vmem, ⟨9, _⟩ => ⟨S256x4096, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S4096x1024, .bf16⟩
  | .local _ .vmem, ⟨15, _⟩ => ⟨S4096x1024, .bf16⟩
  | .local _ .vmem, ⟨16, _⟩ => ⟨S64x64x1024, .bf16⟩
  | .local _ .smem, ⟨0, _⟩ => ⟨S1024, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![13], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v21 : BitVec 32 := Scalar.muli arg0 c512_i32
  let v22 : Index := Scalar.indexCast v21
  let c0_10 : Index := 0#32
  ![v22.toNat, 0]
def k0_off2 (i : grid0.Coords) (c0_i32_12 : BitVec 32) : Fin 3 → Nat :=
  let arg0 : BitVec 32 := BitVec.ofNat 32 (i 0).val
  let c8_i32_11 : BitVec 32 := 8#32
  let v26 : BitVec 32 := Scalar.muli arg0 c8_i32_11
  let v27 : BitVec 32 := Scalar.addi v26 c0_i32_12
  let v77 : Index := Scalar.indexCast v27
  let c0_46 : Index := 0#32
  let c0_47 : Index := 0#32
  ![v77.toNat, 0, 0]
def k0_cond2 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_4 : BitVec 32 := 0#32
  let c64_i32 : BitVec 32 := 64#32
  let v9 : BitVec 32 := Scalar.addi c0_i32_4 c64_i32
  let c1_i32 : BitVec 32 := 1#32
  ⟨c0_i32_4, v9, c1_i32⟩
def k0_off3 (k0_t1 : Fin k0_t1_loop.trips) : Fin 3 → Nat :=
  let c0_i32_4 : BitVec 32 := 0#32
  let c1_i32 : BitVec 32 := 1#32
  let arg13 : BitVec 32 := Scf.iv c0_i32_4 c1_i32 k0_t1
  let v11 : Index := Scalar.indexCast arg13
  let c0 : Index := 0#32
  let c0_6 : Index := 0#32
  ![v11.toNat, 0, 0]
def k0_off4 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c0_i32_7 : BitVec 32 := 0#32
  let v14 : BitVec 32 := Scalar.addi v10 c0_i32_7
  let v15 : Index := Scalar.indexCast v14
  ![v15.toNat]
def k0_mult1 (v16 : BitVec 32) : BitVec 32 :=
  let c64_i32_8 : BitVec 32 := 64#32
  let v17 : BitVec 32 := Scalar.muli v16 c64_i32_8
  v17

def k0_off5 (v16 : BitVec 32) : Fin 2 → Nat :=
  let c64_i32_8 : BitVec 32 := 64#32
  let v17 : BitVec 32 := Scalar.muli v16 c64_i32_8
  let v18 : BitVec 32 := v17
  let v19 : Index := Scalar.indexCast v18
  let c0_9 : Index := 0#32
  ![v19.toNat, 0]

def k0_chk1 (i : grid0.Coords) (v16 : BitVec 32) : Prop :=
  (∀ (k0_h2 : k0_cond2 i = 1#1), 64 ∣ (k0_mult1 v16).toNat) ∧
  (∀ (k0_h2 : k0_cond2 i = 1#1), ∀ a, (k0_off5 v16) a + S64x1024.size a ≤ S4096x1024.size a)
theorem k0_mult1_dvd : ∀ (i : grid0.Coords) (v16 : BitVec 32) (k0_hw1 : k0_chk1 i v16), ∀ (k0_h2 : k0_cond2 i = 1#1), 64 ∣ (k0_mult1 v16).toNat := fun i v16 k0_hw1 k0_h2 => k0_hw1.1 k0_h2
theorem k0_off5_inb : ∀ (i : grid0.Coords) (v16 : BitVec 32) (k0_hw1 : k0_chk1 i v16), ∀ (k0_h2 : k0_cond2 i = 1#1), ∀ a, (k0_off5 v16) a + S64x1024.size a ≤ S4096x1024.size a := fun i v16 k0_hw1 k0_h2 => k0_hw1.2 k0_h2

def k0_off6 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c1_i32_10 : BitVec 32 := 1#32
  let v21 : BitVec 32 := Scalar.addi v10 c1_i32_10
  let v22 : Index := Scalar.indexCast v21
  ![v22.toNat]
def k0_mult2 (v23 : BitVec 32) : BitVec 32 :=
  let c64_i32_11 : BitVec 32 := 64#32
  let v24 : BitVec 32 := Scalar.muli v23 c64_i32_11
  v24

def k0_off7 (v23 : BitVec 32) : Fin 2 → Nat :=
  let c64_i32_11 : BitVec 32 := 64#32
  let v24 : BitVec 32 := Scalar.muli v23 c64_i32_11
  let v25 : BitVec 32 := v24
  let v26 : Index := Scalar.indexCast v25
  let c0_12 : Index := 0#32
  ![v26.toNat, 0]

def k0_chk2 (i : grid0.Coords) (v23 : BitVec 32) : Prop :=
  (∀ (k0_h2 : k0_cond2 i = 1#1), 64 ∣ (k0_mult2 v23).toNat) ∧
  (∀ (k0_h2 : k0_cond2 i = 1#1), ∀ a, (k0_off7 v23) a + S64x1024.size a ≤ S4096x1024.size a)
theorem k0_mult2_dvd : ∀ (i : grid0.Coords) (v23 : BitVec 32) (k0_hw2 : k0_chk2 i v23), ∀ (k0_h2 : k0_cond2 i = 1#1), 64 ∣ (k0_mult2 v23).toNat := fun i v23 k0_hw2 k0_h2 => k0_hw2.1 k0_h2
theorem k0_off7_inb : ∀ (i : grid0.Coords) (v23 : BitVec 32) (k0_hw2 : k0_chk2 i v23), ∀ (k0_h2 : k0_cond2 i = 1#1), ∀ a, (k0_off7 v23) a + S64x1024.size a ≤ S4096x1024.size a := fun i v23 k0_hw2 k0_h2 => k0_hw2.2 k0_h2

def k0_off8 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c2_i32 : BitVec 32 := 2#32
  let v28 : BitVec 32 := Scalar.addi v10 c2_i32
  let v29 : Index := Scalar.indexCast v28
  ![v29.toNat]
def k0_mult3 (v30 : BitVec 32) : BitVec 32 :=
  let c64_i32_13 : BitVec 32 := 64#32
  let v31 : BitVec 32 := Scalar.muli v30 c64_i32_13
  v31

def k0_off9 (v30 : BitVec 32) : Fin 2 → Nat :=
  let c64_i32_13 : BitVec 32 := 64#32
  let v31 : BitVec 32 := Scalar.muli v30 c64_i32_13
  let v32 : BitVec 32 := v31
  let v33 : Index := Scalar.indexCast v32
  let c0_14 : Index := 0#32
  ![v33.toNat, 0]

def k0_chk3 (i : grid0.Coords) (v30 : BitVec 32) : Prop :=
  (∀ (k0_h2 : k0_cond2 i = 1#1), 64 ∣ (k0_mult3 v30).toNat) ∧
  (∀ (k0_h2 : k0_cond2 i = 1#1), ∀ a, (k0_off9 v30) a + S64x1024.size a ≤ S4096x1024.size a)
theorem k0_mult3_dvd : ∀ (i : grid0.Coords) (v30 : BitVec 32) (k0_hw3 : k0_chk3 i v30), ∀ (k0_h2 : k0_cond2 i = 1#1), 64 ∣ (k0_mult3 v30).toNat := fun i v30 k0_hw3 k0_h2 => k0_hw3.1 k0_h2
theorem k0_off9_inb : ∀ (i : grid0.Coords) (v30 : BitVec 32) (k0_hw3 : k0_chk3 i v30), ∀ (k0_h2 : k0_cond2 i = 1#1), ∀ a, (k0_off9 v30) a + S64x1024.size a ≤ S4096x1024.size a := fun i v30 k0_hw3 k0_h2 => k0_hw3.2 k0_h2

def k0_off10 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c3_i32 : BitVec 32 := 3#32
  let v35 : BitVec 32 := Scalar.addi v10 c3_i32
  let v36 : Index := Scalar.indexCast v35
  ![v36.toNat]
def k0_mult4 (v37 : BitVec 32) : BitVec 32 :=
  let c64_i32_15 : BitVec 32 := 64#32
  let v38 : BitVec 32 := Scalar.muli v37 c64_i32_15
  v38

def k0_off11 (v37 : BitVec 32) : Fin 2 → Nat :=
  let c64_i32_15 : BitVec 32 := 64#32
  let v38 : BitVec 32 := Scalar.muli v37 c64_i32_15
  let v39 : BitVec 32 := v38
  let v40 : Index := Scalar.indexCast v39
  let c0_16 : Index := 0#32
  ![v40.toNat, 0]

def k0_chk4 (i : grid0.Coords) (v37 : BitVec 32) : Prop :=
  (∀ (k0_h2 : k0_cond2 i = 1#1), 64 ∣ (k0_mult4 v37).toNat) ∧
  (∀ (k0_h2 : k0_cond2 i = 1#1), ∀ a, (k0_off11 v37) a + S64x1024.size a ≤ S4096x1024.size a)
theorem k0_mult4_dvd : ∀ (i : grid0.Coords) (v37 : BitVec 32) (k0_hw4 : k0_chk4 i v37), ∀ (k0_h2 : k0_cond2 i = 1#1), 64 ∣ (k0_mult4 v37).toNat := fun i v37 k0_hw4 k0_h2 => k0_hw4.1 k0_h2
theorem k0_off11_inb : ∀ (i : grid0.Coords) (v37 : BitVec 32) (k0_hw4 : k0_chk4 i v37), ∀ (k0_h2 : k0_cond2 i = 1#1), ∀ a, (k0_off11 v37) a + S64x1024.size a ≤ S4096x1024.size a := fun i v37 k0_hw4 k0_h2 => k0_hw4.2 k0_h2

def k0_off12 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c4_i32 : BitVec 32 := 4#32
  let v42 : BitVec 32 := Scalar.addi v10 c4_i32
  let v43 : Index := Scalar.indexCast v42
  ![v43.toNat]
def k0_mult5 (v44 : BitVec 32) : BitVec 32 :=
  let c64_i32_17 : BitVec 32 := 64#32
  let v45 : BitVec 32 := Scalar.muli v44 c64_i32_17
  v45

def k0_off13 (v44 : BitVec 32) : Fin 2 → Nat :=
  let c64_i32_17 : BitVec 32 := 64#32
  let v45 : BitVec 32 := Scalar.muli v44 c64_i32_17
  let v46 : BitVec 32 := v45
  let v47 : Index := Scalar.indexCast v46
  let c0_18 : Index := 0#32
  ![v47.toNat, 0]

def k0_chk5 (i : grid0.Coords) (v44 : BitVec 32) : Prop :=
  (∀ (k0_h2 : k0_cond2 i = 1#1), 64 ∣ (k0_mult5 v44).toNat) ∧
  (∀ (k0_h2 : k0_cond2 i = 1#1), ∀ a, (k0_off13 v44) a + S64x1024.size a ≤ S4096x1024.size a)
theorem k0_mult5_dvd : ∀ (i : grid0.Coords) (v44 : BitVec 32) (k0_hw5 : k0_chk5 i v44), ∀ (k0_h2 : k0_cond2 i = 1#1), 64 ∣ (k0_mult5 v44).toNat := fun i v44 k0_hw5 k0_h2 => k0_hw5.1 k0_h2
theorem k0_off13_inb : ∀ (i : grid0.Coords) (v44 : BitVec 32) (k0_hw5 : k0_chk5 i v44), ∀ (k0_h2 : k0_cond2 i = 1#1), ∀ a, (k0_off13 v44) a + S64x1024.size a ≤ S4096x1024.size a := fun i v44 k0_hw5 k0_h2 => k0_hw5.2 k0_h2

def k0_off14 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c5_i32 : BitVec 32 := 5#32
  let v49 : BitVec 32 := Scalar.addi v10 c5_i32
  let v50 : Index := Scalar.indexCast v49
  ![v50.toNat]
def k0_mult6 (v51 : BitVec 32) : BitVec 32 :=
  let c64_i32_19 : BitVec 32 := 64#32
  let v52 : BitVec 32 := Scalar.muli v51 c64_i32_19
  v52

def k0_off15 (v51 : BitVec 32) : Fin 2 → Nat :=
  let c64_i32_19 : BitVec 32 := 64#32
  let v52 : BitVec 32 := Scalar.muli v51 c64_i32_19
  let v53 : BitVec 32 := v52
  let v54 : Index := Scalar.indexCast v53
  let c0_20 : Index := 0#32
  ![v54.toNat, 0]

def k0_chk6 (i : grid0.Coords) (v51 : BitVec 32) : Prop :=
  (∀ (k0_h2 : k0_cond2 i = 1#1), 64 ∣ (k0_mult6 v51).toNat) ∧
  (∀ (k0_h2 : k0_cond2 i = 1#1), ∀ a, (k0_off15 v51) a + S64x1024.size a ≤ S4096x1024.size a)
theorem k0_mult6_dvd : ∀ (i : grid0.Coords) (v51 : BitVec 32) (k0_hw6 : k0_chk6 i v51), ∀ (k0_h2 : k0_cond2 i = 1#1), 64 ∣ (k0_mult6 v51).toNat := fun i v51 k0_hw6 k0_h2 => k0_hw6.1 k0_h2
theorem k0_off15_inb : ∀ (i : grid0.Coords) (v51 : BitVec 32) (k0_hw6 : k0_chk6 i v51), ∀ (k0_h2 : k0_cond2 i = 1#1), ∀ a, (k0_off15 v51) a + S64x1024.size a ≤ S4096x1024.size a := fun i v51 k0_hw6 k0_h2 => k0_hw6.2 k0_h2

def k0_off16 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c6_i32 : BitVec 32 := 6#32
  let v56 : BitVec 32 := Scalar.addi v10 c6_i32
  let v57 : Index := Scalar.indexCast v56
  ![v57.toNat]
def k0_mult7 (v58 : BitVec 32) : BitVec 32 :=
  let c64_i32_21 : BitVec 32 := 64#32
  let v59 : BitVec 32 := Scalar.muli v58 c64_i32_21
  v59

def k0_off17 (v58 : BitVec 32) : Fin 2 → Nat :=
  let c64_i32_21 : BitVec 32 := 64#32
  let v59 : BitVec 32 := Scalar.muli v58 c64_i32_21
  let v60 : BitVec 32 := v59
  let v61 : Index := Scalar.indexCast v60
  let c0_22 : Index := 0#32
  ![v61.toNat, 0]

def k0_chk7 (i : grid0.Coords) (v58 : BitVec 32) : Prop :=
  (∀ (k0_h2 : k0_cond2 i = 1#1), 64 ∣ (k0_mult7 v58).toNat) ∧
  (∀ (k0_h2 : k0_cond2 i = 1#1), ∀ a, (k0_off17 v58) a + S64x1024.size a ≤ S4096x1024.size a)
theorem k0_mult7_dvd : ∀ (i : grid0.Coords) (v58 : BitVec 32) (k0_hw7 : k0_chk7 i v58), ∀ (k0_h2 : k0_cond2 i = 1#1), 64 ∣ (k0_mult7 v58).toNat := fun i v58 k0_hw7 k0_h2 => k0_hw7.1 k0_h2
theorem k0_off17_inb : ∀ (i : grid0.Coords) (v58 : BitVec 32) (k0_hw7 : k0_chk7 i v58), ∀ (k0_h2 : k0_cond2 i = 1#1), ∀ a, (k0_off17 v58) a + S64x1024.size a ≤ S4096x1024.size a := fun i v58 k0_hw7 k0_h2 => k0_hw7.2 k0_h2

def k0_off18 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c7_i32 : BitVec 32 := 7#32
  let v63 : BitVec 32 := Scalar.addi v10 c7_i32
  let v64 : Index := Scalar.indexCast v63
  ![v64.toNat]
def k0_mult8 (v65 : BitVec 32) : BitVec 32 :=
  let c64_i32_23 : BitVec 32 := 64#32
  let v66 : BitVec 32 := Scalar.muli v65 c64_i32_23
  v66

def k0_off19 (v65 : BitVec 32) : Fin 2 → Nat :=
  let c64_i32_23 : BitVec 32 := 64#32
  let v66 : BitVec 32 := Scalar.muli v65 c64_i32_23
  let v67 : BitVec 32 := v66
  let v68 : Index := Scalar.indexCast v67
  let c0_24 : Index := 0#32
  ![v68.toNat, 0]

def k0_chk8 (i : grid0.Coords) (v65 : BitVec 32) : Prop :=
  (∀ (k0_h2 : k0_cond2 i = 1#1), 64 ∣ (k0_mult8 v65).toNat) ∧
  (∀ (k0_h2 : k0_cond2 i = 1#1), ∀ a, (k0_off19 v65) a + S64x1024.size a ≤ S4096x1024.size a)
theorem k0_mult8_dvd : ∀ (i : grid0.Coords) (v65 : BitVec 32) (k0_hw8 : k0_chk8 i v65), ∀ (k0_h2 : k0_cond2 i = 1#1), 64 ∣ (k0_mult8 v65).toNat := fun i v65 k0_hw8 k0_h2 => k0_hw8.1 k0_h2
theorem k0_off19_inb : ∀ (i : grid0.Coords) (v65 : BitVec 32) (k0_hw8 : k0_chk8 i v65), ∀ (k0_h2 : k0_cond2 i = 1#1), ∀ a, (k0_off19 v65) a + S64x1024.size a ≤ S4096x1024.size a := fun i v65 k0_hw8 k0_h2 => k0_hw8.2 k0_h2

def k0_off20 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c8_i32_25 : BitVec 32 := 8#32
  let v70 : BitVec 32 := Scalar.addi v10 c8_i32_25
  let v71 : Index := Scalar.indexCast v70
  ![v71.toNat]
def k0_mult9 (v72 : BitVec 32) : BitVec 32 :=
  let c64_i32_26 : BitVec 32 := 64#32
  let v73 : BitVec 32 := Scalar.muli v72 c64_i32_26
  v73

def k0_off21 (v72 : BitVec 32) : Fin 2 → Nat :=
  let c64_i32_26 : BitVec 32 := 64#32
  let v73 : BitVec 32 := Scalar.muli v72 c64_i32_26
  let v74 : BitVec 32 := v73
  let v75 : Index := Scalar.indexCast v74
  let c0_27 : Index := 0#32
  ![v75.toNat, 0]

def k0_chk9 (i : grid0.Coords) (v72 : BitVec 32) : Prop :=
  (∀ (k0_h2 : k0_cond2 i = 1#1), 64 ∣ (k0_mult9 v72).toNat) ∧
  (∀ (k0_h2 : k0_cond2 i = 1#1), ∀ a, (k0_off21 v72) a + S64x1024.size a ≤ S4096x1024.size a)
theorem k0_mult9_dvd : ∀ (i : grid0.Coords) (v72 : BitVec 32) (k0_hw9 : k0_chk9 i v72), ∀ (k0_h2 : k0_cond2 i = 1#1), 64 ∣ (k0_mult9 v72).toNat := fun i v72 k0_hw9 k0_h2 => k0_hw9.1 k0_h2
theorem k0_off21_inb : ∀ (i : grid0.Coords) (v72 : BitVec 32) (k0_hw9 : k0_chk9 i v72), ∀ (k0_h2 : k0_cond2 i = 1#1), ∀ a, (k0_off21 v72) a + S64x1024.size a ≤ S4096x1024.size a := fun i v72 k0_hw9 k0_h2 => k0_hw9.2 k0_h2

def k0_off22 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c9_i32 : BitVec 32 := 9#32
  let v77 : BitVec 32 := Scalar.addi v10 c9_i32
  let v78 : Index := Scalar.indexCast v77
  ![v78.toNat]
def k0_mult10 (v79 : BitVec 32) : BitVec 32 :=
  let c64_i32_28 : BitVec 32 := 64#32
  let v80 : BitVec 32 := Scalar.muli v79 c64_i32_28
  v80

def k0_off23 (v79 : BitVec 32) : Fin 2 → Nat :=
  let c64_i32_28 : BitVec 32 := 64#32
  let v80 : BitVec 32 := Scalar.muli v79 c64_i32_28
  let v81 : BitVec 32 := v80
  let v82 : Index := Scalar.indexCast v81
  let c0_29 : Index := 0#32
  ![v82.toNat, 0]

def k0_chk10 (i : grid0.Coords) (v79 : BitVec 32) : Prop :=
  (∀ (k0_h2 : k0_cond2 i = 1#1), 64 ∣ (k0_mult10 v79).toNat) ∧
  (∀ (k0_h2 : k0_cond2 i = 1#1), ∀ a, (k0_off23 v79) a + S64x1024.size a ≤ S4096x1024.size a)
theorem k0_mult10_dvd : ∀ (i : grid0.Coords) (v79 : BitVec 32) (k0_hw10 : k0_chk10 i v79), ∀ (k0_h2 : k0_cond2 i = 1#1), 64 ∣ (k0_mult10 v79).toNat := fun i v79 k0_hw10 k0_h2 => k0_hw10.1 k0_h2
theorem k0_off23_inb : ∀ (i : grid0.Coords) (v79 : BitVec 32) (k0_hw10 : k0_chk10 i v79), ∀ (k0_h2 : k0_cond2 i = 1#1), ∀ a, (k0_off23 v79) a + S64x1024.size a ≤ S4096x1024.size a := fun i v79 k0_hw10 k0_h2 => k0_hw10.2 k0_h2

def k0_off24 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c10_i32 : BitVec 32 := 10#32
  let v84 : BitVec 32 := Scalar.addi v10 c10_i32
  let v85 : Index := Scalar.indexCast v84
  ![v85.toNat]
def k0_mult11 (v86 : BitVec 32) : BitVec 32 :=
  let c64_i32_30 : BitVec 32 := 64#32
  let v87 : BitVec 32 := Scalar.muli v86 c64_i32_30
  v87

def k0_off25 (v86 : BitVec 32) : Fin 2 → Nat :=
  let c64_i32_30 : BitVec 32 := 64#32
  let v87 : BitVec 32 := Scalar.muli v86 c64_i32_30
  let v88 : BitVec 32 := v87
  let v89 : Index := Scalar.indexCast v88
  let c0_31 : Index := 0#32
  ![v89.toNat, 0]

def k0_chk11 (i : grid0.Coords) (v86 : BitVec 32) : Prop :=
  (∀ (k0_h2 : k0_cond2 i = 1#1), 64 ∣ (k0_mult11 v86).toNat) ∧
  (∀ (k0_h2 : k0_cond2 i = 1#1), ∀ a, (k0_off25 v86) a + S64x1024.size a ≤ S4096x1024.size a)
theorem k0_mult11_dvd : ∀ (i : grid0.Coords) (v86 : BitVec 32) (k0_hw11 : k0_chk11 i v86), ∀ (k0_h2 : k0_cond2 i = 1#1), 64 ∣ (k0_mult11 v86).toNat := fun i v86 k0_hw11 k0_h2 => k0_hw11.1 k0_h2
theorem k0_off25_inb : ∀ (i : grid0.Coords) (v86 : BitVec 32) (k0_hw11 : k0_chk11 i v86), ∀ (k0_h2 : k0_cond2 i = 1#1), ∀ a, (k0_off25 v86) a + S64x1024.size a ≤ S4096x1024.size a := fun i v86 k0_hw11 k0_h2 => k0_hw11.2 k0_h2

def k0_off26 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c11_i32 : BitVec 32 := 11#32
  let v91 : BitVec 32 := Scalar.addi v10 c11_i32
  let v92 : Index := Scalar.indexCast v91
  ![v92.toNat]
def k0_mult12 (v93 : BitVec 32) : BitVec 32 :=
  let c64_i32_32 : BitVec 32 := 64#32
  let v94 : BitVec 32 := Scalar.muli v93 c64_i32_32
  v94

def k0_off27 (v93 : BitVec 32) : Fin 2 → Nat :=
  let c64_i32_32 : BitVec 32 := 64#32
  let v94 : BitVec 32 := Scalar.muli v93 c64_i32_32
  let v95 : BitVec 32 := v94
  let v96 : Index := Scalar.indexCast v95
  let c0_33 : Index := 0#32
  ![v96.toNat, 0]

def k0_chk12 (i : grid0.Coords) (v93 : BitVec 32) : Prop :=
  (∀ (k0_h2 : k0_cond2 i = 1#1), 64 ∣ (k0_mult12 v93).toNat) ∧
  (∀ (k0_h2 : k0_cond2 i = 1#1), ∀ a, (k0_off27 v93) a + S64x1024.size a ≤ S4096x1024.size a)
theorem k0_mult12_dvd : ∀ (i : grid0.Coords) (v93 : BitVec 32) (k0_hw12 : k0_chk12 i v93), ∀ (k0_h2 : k0_cond2 i = 1#1), 64 ∣ (k0_mult12 v93).toNat := fun i v93 k0_hw12 k0_h2 => k0_hw12.1 k0_h2
theorem k0_off27_inb : ∀ (i : grid0.Coords) (v93 : BitVec 32) (k0_hw12 : k0_chk12 i v93), ∀ (k0_h2 : k0_cond2 i = 1#1), ∀ a, (k0_off27 v93) a + S64x1024.size a ≤ S4096x1024.size a := fun i v93 k0_hw12 k0_h2 => k0_hw12.2 k0_h2

def k0_off28 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c12_i32 : BitVec 32 := 12#32
  let v98 : BitVec 32 := Scalar.addi v10 c12_i32
  let v99 : Index := Scalar.indexCast v98
  ![v99.toNat]
def k0_mult13 (v100 : BitVec 32) : BitVec 32 :=
  let c64_i32_34 : BitVec 32 := 64#32
  let v101 : BitVec 32 := Scalar.muli v100 c64_i32_34
  v101

def k0_off29 (v100 : BitVec 32) : Fin 2 → Nat :=
  let c64_i32_34 : BitVec 32 := 64#32
  let v101 : BitVec 32 := Scalar.muli v100 c64_i32_34
  let v102 : BitVec 32 := v101
  let v103 : Index := Scalar.indexCast v102
  let c0_35 : Index := 0#32
  ![v103.toNat, 0]

def k0_chk13 (i : grid0.Coords) (v100 : BitVec 32) : Prop :=
  (∀ (k0_h2 : k0_cond2 i = 1#1), 64 ∣ (k0_mult13 v100).toNat) ∧
  (∀ (k0_h2 : k0_cond2 i = 1#1), ∀ a, (k0_off29 v100) a + S64x1024.size a ≤ S4096x1024.size a)
theorem k0_mult13_dvd : ∀ (i : grid0.Coords) (v100 : BitVec 32) (k0_hw13 : k0_chk13 i v100), ∀ (k0_h2 : k0_cond2 i = 1#1), 64 ∣ (k0_mult13 v100).toNat := fun i v100 k0_hw13 k0_h2 => k0_hw13.1 k0_h2
theorem k0_off29_inb : ∀ (i : grid0.Coords) (v100 : BitVec 32) (k0_hw13 : k0_chk13 i v100), ∀ (k0_h2 : k0_cond2 i = 1#1), ∀ a, (k0_off29 v100) a + S64x1024.size a ≤ S4096x1024.size a := fun i v100 k0_hw13 k0_h2 => k0_hw13.2 k0_h2

def k0_off30 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c13_i32 : BitVec 32 := 13#32
  let v105 : BitVec 32 := Scalar.addi v10 c13_i32
  let v106 : Index := Scalar.indexCast v105
  ![v106.toNat]
def k0_mult14 (v107 : BitVec 32) : BitVec 32 :=
  let c64_i32_36 : BitVec 32 := 64#32
  let v108 : BitVec 32 := Scalar.muli v107 c64_i32_36
  v108

def k0_off31 (v107 : BitVec 32) : Fin 2 → Nat :=
  let c64_i32_36 : BitVec 32 := 64#32
  let v108 : BitVec 32 := Scalar.muli v107 c64_i32_36
  let v109 : BitVec 32 := v108
  let v110 : Index := Scalar.indexCast v109
  let c0_37 : Index := 0#32
  ![v110.toNat, 0]

def k0_chk14 (i : grid0.Coords) (v107 : BitVec 32) : Prop :=
  (∀ (k0_h2 : k0_cond2 i = 1#1), 64 ∣ (k0_mult14 v107).toNat) ∧
  (∀ (k0_h2 : k0_cond2 i = 1#1), ∀ a, (k0_off31 v107) a + S64x1024.size a ≤ S4096x1024.size a)
theorem k0_mult14_dvd : ∀ (i : grid0.Coords) (v107 : BitVec 32) (k0_hw14 : k0_chk14 i v107), ∀ (k0_h2 : k0_cond2 i = 1#1), 64 ∣ (k0_mult14 v107).toNat := fun i v107 k0_hw14 k0_h2 => k0_hw14.1 k0_h2
theorem k0_off31_inb : ∀ (i : grid0.Coords) (v107 : BitVec 32) (k0_hw14 : k0_chk14 i v107), ∀ (k0_h2 : k0_cond2 i = 1#1), ∀ a, (k0_off31 v107) a + S64x1024.size a ≤ S4096x1024.size a := fun i v107 k0_hw14 k0_h2 => k0_hw14.2 k0_h2

def k0_off32 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c14_i32 : BitVec 32 := 14#32
  let v112 : BitVec 32 := Scalar.addi v10 c14_i32
  let v113 : Index := Scalar.indexCast v112
  ![v113.toNat]
def k0_mult15 (v114 : BitVec 32) : BitVec 32 :=
  let c64_i32_38 : BitVec 32 := 64#32
  let v115 : BitVec 32 := Scalar.muli v114 c64_i32_38
  v115

def k0_off33 (v114 : BitVec 32) : Fin 2 → Nat :=
  let c64_i32_38 : BitVec 32 := 64#32
  let v115 : BitVec 32 := Scalar.muli v114 c64_i32_38
  let v116 : BitVec 32 := v115
  let v117 : Index := Scalar.indexCast v116
  let c0_39 : Index := 0#32
  ![v117.toNat, 0]

def k0_chk15 (i : grid0.Coords) (v114 : BitVec 32) : Prop :=
  (∀ (k0_h2 : k0_cond2 i = 1#1), 64 ∣ (k0_mult15 v114).toNat) ∧
  (∀ (k0_h2 : k0_cond2 i = 1#1), ∀ a, (k0_off33 v114) a + S64x1024.size a ≤ S4096x1024.size a)
theorem k0_mult15_dvd : ∀ (i : grid0.Coords) (v114 : BitVec 32) (k0_hw15 : k0_chk15 i v114), ∀ (k0_h2 : k0_cond2 i = 1#1), 64 ∣ (k0_mult15 v114).toNat := fun i v114 k0_hw15 k0_h2 => k0_hw15.1 k0_h2
theorem k0_off33_inb : ∀ (i : grid0.Coords) (v114 : BitVec 32) (k0_hw15 : k0_chk15 i v114), ∀ (k0_h2 : k0_cond2 i = 1#1), ∀ a, (k0_off33 v114) a + S64x1024.size a ≤ S4096x1024.size a := fun i v114 k0_hw15 k0_h2 => k0_hw15.2 k0_h2

def k0_off34 (k0_t1 : Fin k0_t1_loop.trips) : Fin 1 → Nat :=
  let c0_i32_4 : BitVec 32 := 0#32
  let c1_i32 : BitVec 32 := 1#32
  let arg13 : BitVec 32 := Scf.iv c0_i32_4 c1_i32 k0_t1
  let c16_i32 : BitVec 32 := 16#32
  let v10 : BitVec 32 := Scalar.muli arg13 c16_i32
  let c15_i32 : BitVec 32 := 15#32
  let v119 : BitVec 32 := Scalar.addi v10 c15_i32
  let v120 : Index := Scalar.indexCast v119
  ![v120.toNat]
def k0_mult16 (v121 : BitVec 32) : BitVec 32 :=
  let c64_i32_40 : BitVec 32 := 64#32
  let v122 : BitVec 32 := Scalar.muli v121 c64_i32_40
  v122

def k0_off35 (v121 : BitVec 32) : Fin 2 → Nat :=
  let c64_i32_40 : BitVec 32 := 64#32
  let v122 : BitVec 32 := Scalar.muli v121 c64_i32_40
  let v123 : BitVec 32 := v122
  let v124 : Index := Scalar.indexCast v123
  let c0_41 : Index := 0#32
  ![v124.toNat, 0]

def k0_chk16 (i : grid0.Coords) (v121 : BitVec 32) : Prop :=
  (∀ (k0_h2 : k0_cond2 i = 1#1), 64 ∣ (k0_mult16 v121).toNat) ∧
  (∀ (k0_h2 : k0_cond2 i = 1#1), ∀ a, (k0_off35 v121) a + S64x1024.size a ≤ S4096x1024.size a)
theorem k0_mult16_dvd : ∀ (i : grid0.Coords) (v121 : BitVec 32) (k0_hw16 : k0_chk16 i v121), ∀ (k0_h2 : k0_cond2 i = 1#1), 64 ∣ (k0_mult16 v121).toNat := fun i v121 k0_hw16 k0_h2 => k0_hw16.1 k0_h2
theorem k0_off35_inb : ∀ (i : grid0.Coords) (v121 : BitVec 32) (k0_hw16 : k0_chk16 i v121), ∀ (k0_h2 : k0_cond2 i = 1#1), ∀ a, (k0_off35 v121) a + S64x1024.size a ≤ S4096x1024.size a := fun i v121 k0_hw16 k0_h2 => k0_hw16.2 k0_h2

def k0_off36 (k0_t1 : Fin k0_t1_loop.trips) : Fin 2 → Nat :=
  let c0_i32_4 : BitVec 32 := 0#32
  let c1_i32 : BitVec 32 := 1#32
  let arg13 : BitVec 32 := Scf.iv c0_i32_4 c1_i32 k0_t1
  let c64_i32_42 : BitVec 32 := 64#32
  let v128 : BitVec 32 := Scalar.muli arg13 c64_i32_42
  let v129 : Index := Scalar.indexCast v128
  let c0_43 : Index := 0#32
  ![v129.toNat, 0]
def k0_off37 (k0_t1 : Fin k0_t1_loop.trips) : Fin 2 → Nat :=
  let c0_i32_4 : BitVec 32 := 0#32
  let c1_i32 : BitVec 32 := 1#32
  let arg13 : BitVec 32 := Scf.iv c0_i32_4 c1_i32 k0_t1
  let c64_i32_45 : BitVec 32 := 64#32
  let v137 : BitVec 32 := Scalar.muli arg13 c64_i32_45
  let v138 : Index := Scalar.indexCast v137
  let c0_46 : Index := 0#32
  ![v138.toNat, 0]
def k0_cond3 (i : grid0.Coords) : BitVec 1 :=
  let arg0 : BitVec 32 := BitVec.ofNat 32 (i 0).val
  let c8_i32_2 : BitVec 32 := 8#32
  let v6 : BitVec 1 := Scalar.cmpi .sgt arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![c0_i32_0.toNat, v3.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x1024 : Shape := ⟨2, ![1024, 1024]⟩
abbrev S4096x1024 : Shape := ⟨2, ![4096, 1024]⟩
abbrev S4096 : Shape := ⟨1, ![4096]⟩
abbrev S1024x64x64 : Shape := ⟨3, ![1024, 64, 64]⟩
abbrev S1024x4096 : Shape := ⟨2, ![1024, 4096]⟩
abbrev S1024 : Shape := ⟨1, ![1024]⟩
abbrev S65 : Shape := ⟨1, ![65]⟩
abbrev S1x4096 : Shape := ⟨2, ![1, 4096]⟩
abbrev S_ : Shape := ⟨0, ![]⟩
abbrev S64 : Shape := ⟨1, ![64]⟩
abbrev S1 : Shape := ⟨1, ![1]⟩
abbrev S63 : Shape := ⟨1, ![63]⟩
abbrev S64x1 : Shape := ⟨2, ![64, 1]⟩
abbrev S1024x1 : Shape := ⟨2, ![1024, 1]⟩
abbrev S1x1 : Shape := ⟨2, ![1, 1]⟩
abbrev S1024x1024x64 : Shape := ⟨3, ![1024, 1024, 64]⟩
abbrev S64x1024x64 : Shape := ⟨3, ![64, 1024, 64]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096, .f32⟩
  | .hbm, ⟨3, _⟩ => ⟨S1024x64x64, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S65, .i32⟩
  | .hbm, ⟨8, _⟩ => ⟨S1024, .i32⟩
  | .hbm, ⟨9, _⟩ => ⟨S1024x4096, .f32⟩
  | .hbm, ⟨10, _⟩ => ⟨S1024x4096, .f32⟩
  | .hbm, ⟨11, _⟩ => ⟨S1x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S1, .i32⟩
  | .hbm, ⟨22, _⟩ => ⟨S63, .i32⟩
  | .hbm, ⟨23, _⟩ => ⟨S64, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S64, .i32⟩
  | .hbm, ⟨31, _⟩ => ⟨S_, .i32⟩
  | .hbm, ⟨32, _⟩ => ⟨S1024, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S_, .i32⟩
  | .hbm, ⟨42, _⟩ => ⟨S64, .i32⟩
  | .hbm, ⟨43, _⟩ => ⟨S1024, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024x1, .i32⟩
  | .hbm, ⟨58, _⟩ => ⟨S1, .i32⟩
  | .hbm, ⟨59, _⟩ => ⟨S_, .i32⟩
  | .hbm, ⟨60, _⟩ => ⟨S1024x1, .i32⟩
  | .hbm, ⟨61, _⟩ => ⟨S1024x1, .i1⟩
  | .hbm, ⟨62, _⟩ => ⟨S1x1, .i32⟩
  | .hbm, ⟨63, _⟩ => ⟨S1024x1, .i32⟩
  | .hbm, ⟨64, _⟩ => ⟨S1024x1, .i1⟩
  | .hbm, ⟨65, _⟩ => ⟨S1024x1, .i1⟩
  | .hbm, ⟨66, _⟩ => ⟨S_, .i1⟩
  | .hbm, ⟨67, _⟩ => ⟨S1024, .i1⟩
  | .hbm, ⟨68, _⟩ => ⟨S1024, .i32⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024x64x64, .f32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1024x1024x64, .f32⟩
  | .hbm, ⟨82, _⟩ => ⟨S1024x1024x64, .f32⟩
  | .hbm, ⟨83, _⟩ => ⟨S1024x1024x64, .f32⟩
  | .hbm, ⟨84, _⟩ => ⟨S1024x1024x64, .f32⟩
  | .hbm, ⟨85, _⟩ => ⟨S_, .f32⟩
  | .hbm, ⟨86, _⟩ => ⟨S64x1024x64, .f32⟩
  | .hbm, ⟨87, _⟩ => ⟨S1024x1, .i32⟩
  | .hbm, ⟨88, _⟩ => ⟨S64x1024x64, .f32⟩
  | .hbm, ⟨89, _⟩ => ⟨S1024x64x64, .f32⟩
  | .hbm, ⟨90, _⟩ => ⟨S1024x4096, .f32⟩
  | .hbm, ⟨91, _⟩ => ⟨S1x4096, .f32⟩
  | .hbm, ⟨92, _⟩ => ⟨S1024x4096, .f32⟩
  | .hbm, ⟨93, _⟩ => ⟨S1024x4096, .f32⟩
  | .hbm, ⟨94, _⟩ => ⟨S_, .f32⟩
  | .hbm, ⟨95, _⟩ => ⟨S1024x4096, .f32⟩
  | .hbm, ⟨96, _⟩ => ⟨S1024x4096, .f32⟩
  | .hbm, ⟨97, _⟩ => ⟨S4096x1024, .f32⟩
  | .hbm, ⟨98, _⟩ => ⟨S1024x1024, .f32⟩
  | .hbm, ⟨99, _⟩ => ⟨S1x1024, .f32⟩
  | .hbm, ⟨100, _⟩ => ⟨S1024x1024, .f32⟩
  | .hbm, ⟨101, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_call2_call0_c : Ref sig .tc := ⟨.hbm, 28, rfl⟩
abbrev main_call2_call0_v0 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_call3_call0_c : Ref sig .tc := ⟨.hbm, 44, rfl⟩
abbrev main_call3_call0_v0 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_call4_c : Ref sig .tc := ⟨.hbm, 50, rfl⟩
abbrev main_call4_v0 : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_c_1 : Ref sig .tc := ⟨.hbm, 58, rfl⟩
abbrev main_call4_c_2 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_c_3 : Ref sig .tc := ⟨.hbm, 66, rfl⟩
abbrev main_call4_v12 : Ref sig .tc := ⟨.hbm, 67, rfl⟩
abbrev main_call4_v13 : Ref sig .tc := ⟨.hbm, 68, rfl⟩
abbrev main_call4_c_4 : Ref sig .tc := ⟨.hbm, 69, rfl⟩
abbrev main_call4_v14 : Ref sig .tc := ⟨.hbm, 70, rfl⟩
abbrev main_v26 : Ref sig .tc := ⟨.hbm, 71, rfl⟩
abbrev main_v27 : Ref sig .tc := ⟨.hbm, 72, rfl⟩
abbrev main_c_6 : Ref sig .tc := ⟨.hbm, 73, rfl⟩
abbrev main_v28 : Ref sig .tc := ⟨.hbm, 74, rfl⟩
abbrev main_v29 : Ref sig .tc := ⟨.hbm, 75, rfl⟩
abbrev main_c_7 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_call5_cst : Ref sig .tc := ⟨.hbm, 94, rfl⟩
abbrev main_call5_v0 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩

abbrev nD : Nat := 1
abbrev τ : Topo := Topo.v7x

variable {F : FTy → Type} [FloatOps F]
-- ==== Proof.Reads.lean ====
/- Reading whole buffers through rectangles, and rows of equal pieces: general facts, free of the kernel. -/
module

public import Idealize.ShloMosaic.Lib.Pipeline.Value
public import Idealize.ShloMosaic.Lib.Pointwise
public import Idealize.ShloMosaic.Lib.WholeRead
public import Idealize.ShloMosaic.Lib.Tactic
public import Idealize.ShloMosaic.Lib.Writes

@[expose] public section

set_option maxRecDepth 16384

noncomputable section

namespace Cert.Reads

open Idealize.ShloMosaic

variable {sig : RefSig} {κ : Kind} {sp : Space} {s : Shape} {e : EltTy} {Val : EltTy → Type}

/-- The two offsets of an access to a whole rank-two array. -/
theorem zero2 : (![0, 0] : Fin 2 → Nat) = fun _ => 0 := funext fun a => by fin_cases a <;> rfl

/-- A load of a whole buffer reads what the buffer holds. -/
theorem readAt_whole {m : Memref sig κ sp s e} (h : m.IsWhole) (X : s.Idx → Val e) {off : Fin s.rank → Nat}
    (h0 : off = fun _ => 0) (inb : ∀ a, off a + s.size a ≤ s.size a) :
    m.view.readAt Val (Rect.unit off s.size inb).toLoadRect (h.unread X) = X := by
  funext x
  rw [h.readAt_unread X]
  exact congrFun (View.ld_unit_zero h0 inb X) x

/-- A load of a box of a whole buffer reads, at an index, what the buffer holds at the offsets plus the index. -/
theorem readAt_box {m : Memref sig κ sp s e} (h : m.IsWhole) (X : s.Idx → Val e) {off size : Fin s.rank → Nat}
    (inb : ∀ a, off a + size a ≤ s.size a) (x : (Rect.unit off size inb).shape.Idx) (y : s.Idx)
    (hy : ∀ a, (y a).val = off a + (x a).val) :
    m.view.readAt Val (Rect.unit off size inb).toLoadRect (h.unread X) x = X y := by
  rw [h.readAt_unread X]
  congr 1
  funext a
  apply Fin.ext
  have := hy a
  show off a + 1 * (x a).val = _
  omega

/-- A buffer stored into through one box reads, inside the box, the stored value. -/
theorem read_box_hit (v : View sig κ sp s e) (f : v.ty.Contents Val) {off size : Fin s.rank → Nat}
    (inb : ∀ a, off a + size a ≤ s.size a) (w : (Rect.unit off size inb).shape.Idx → Val e) (L : List (View.Piece Val s e))
    (x : (Rect.unit off size inb).shape.Idx) (y : s.Idx) (hy : ∀ a, (y a).val = off a + (x a).val) :
    v.read Val (v.writes Val f (⟨Rect.unit off size inb, w⟩ :: L)) y = w x :=
  View.read_writes_cons_hit_of_coords v f _ w L x y fun a => by
    have := hy a
    show _ = off a + 1 * (x a).val
    omega

/-- Sixteen 64-column pieces side by side, read at a column: the piece the column falls in, at the column within it. -/
theorem columns_apply {α : Type} (f : Fin 16 → ((⟨2, ![64, 64]⟩ : Shape).Idx → α))
    (h : Shape.Concatenates [⟨2, ![64, 64]⟩, ⟨2, ![64, 64]⟩, ⟨2, ![64, 64]⟩, ⟨2, ![64, 64]⟩, ⟨2, ![64, 64]⟩, ⟨2, ![64, 64]⟩, ⟨2, ![64, 64]⟩,
      ⟨2, ![64, 64]⟩, ⟨2, ![64, 64]⟩, ⟨2, ![64, 64]⟩, ⟨2, ![64, 64]⟩, ⟨2, ![64, 64]⟩, ⟨2, ![64, 64]⟩, ⟨2, ![64, 64]⟩, ⟨2, ![64, 64]⟩,
      ⟨2, ![64, 64]⟩] ⟨2, ![64, 1024]⟩ 1) (j : (⟨2, ![64, 1024]⟩ : Shape).Idx) :
    concatenate (⟨2, ![64, 1024]⟩ : Shape) 1 [⟨⟨2, ![64, 64]⟩, f 0⟩, ⟨⟨2, ![64, 64]⟩, f 1⟩, ⟨⟨2, ![64, 64]⟩, f 2⟩, ⟨⟨2, ![64, 64]⟩, f 3⟩,
      ⟨⟨2, ![64, 64]⟩, f 4⟩, ⟨⟨2, ![64, 64]⟩, f 5⟩, ⟨⟨2, ![64, 64]⟩, f 6⟩, ⟨⟨2, ![64, 64]⟩, f 7⟩, ⟨⟨2, ![64, 64]⟩, f 8⟩, ⟨⟨2, ![64, 64]⟩, f 9⟩,
      ⟨⟨2, ![64, 64]⟩, f 10⟩, ⟨⟨2, ![64, 64]⟩, f 11⟩, ⟨⟨2, ![64, 64]⟩, f 12⟩, ⟨⟨2, ![64, 64]⟩, f 13⟩, ⟨⟨2, ![64, 64]⟩, f 14⟩, ⟨⟨2, ![64, 64]⟩, f 15⟩] h j
      = f ⟨(j 1).val / 64, by have : (j 1).val < 1024 := (j 1).isLt; omega⟩ (ix2 (j 0) ⟨(j 1).val % 64, by omega⟩) :=
  concatenate_ofFn_apply (t := (⟨2, ![64, 1024]⟩ : Shape)) (s₁ := (⟨2, ![64, 64]⟩ : Shape)) 1 f h rfl 64 rfl j _ rfl
    (ix2 (j 0) ⟨(j 1).val % 64, by omega⟩) rfl (fun b hb => by
      match b, hb with
      | ⟨0, _⟩, _ => rfl
      | ⟨1, _⟩, hb => exact absurd rfl hb)

/-- Sixteen 64-row pieces on top of one another, read at a row: the piece the row falls in, at the row within it. -/
theorem rows_apply {α : Type} (f : Fin 16 → ((⟨2, ![64, 1024]⟩ : Shape).Idx → α))
    (h : Shape.Concatenates [⟨2, ![64, 1024]⟩, ⟨2, ![64, 1024]⟩, ⟨2, ![64, 1024]⟩, ⟨2, ![64, 1024]⟩, ⟨2, ![64, 1024]⟩, ⟨2, ![64, 1024]⟩, ⟨2, ![64, 1024]⟩,
      ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩,
      ⟨2, ![64, 1024]⟩] ⟨2, ![1024, 1024]⟩ 0) (j : (⟨2, ![1024, 1024]⟩ : Shape).Idx) :
    concatenate (⟨2, ![1024, 1024]⟩ : Shape) 0 [⟨⟨2, ![64, 1024]⟩, f 0⟩, ⟨⟨2, ![64, 1024]⟩, f 1⟩, ⟨⟨2, ![64, 1024]⟩, f 2⟩, ⟨⟨2, ![64, 1024]⟩, f 3⟩,
      ⟨⟨2, ![64, 1024]⟩, f 4⟩, ⟨⟨2, ![64, 1024]⟩, f 5⟩, ⟨⟨2, ![64, 1024]⟩, f 6⟩, ⟨⟨2, ![64, 1024]⟩, f 7⟩, ⟨⟨2, ![64, 1024]⟩, f 8⟩, ⟨⟨2, ![64, 1024]⟩, f 9⟩,
      ⟨⟨2, ![64, 1024]⟩, f 10⟩, ⟨⟨2, ![64, 1024]⟩, f 11⟩, ⟨⟨2, ![64, 1024]⟩, f 12⟩, ⟨⟨2, ![64, 1024]⟩, f 13⟩, ⟨⟨2, ![64, 1024]⟩, f 14⟩, ⟨⟨2, ![64, 1024]⟩, f 15⟩] h j
      = f ⟨(j 0).val / 64, by have : (j 0).val < 1024 := (j 0).isLt; omega⟩ (ix2 ⟨(j 0).val % 64, by omega⟩ (j 1)) :=
  concatenate_ofFn_apply (t := (⟨2, ![1024, 1024]⟩ : Shape)) (s₁ := (⟨2, ![64, 1024]⟩ : Shape)) 0 f h rfl 64 rfl j _ rfl
    (ix2 ⟨(j 0).val % 64, by omega⟩ (j 1)) rfl (fun b hb => by
      match b, hb with
      | ⟨0, _⟩, hb => exact absurd rfl hb
      | ⟨1, _⟩, _ => rfl)

/-- `rows_apply` with each piece named by the caller. -/
theorem rows_apply_of {α : Type} (f : Fin 16 → ((⟨2, ![64, 1024]⟩ : Shape).Idx → α))
    (h : Shape.Concatenates [⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩, ⟨2, ![64, 1024]⟩] ⟨2, ![1024, 1024]⟩ 0)
    {q0 q1 q2 q3 q4 q5 q6 q7 q8 q9 q10 q11 q12 q13 q14 q15 : (⟨2, ![64, 1024]⟩ : Shape).Idx → α}
    (h0 : q0 = f 0) (h1 : q1 = f 1) (h2 : q2 = f 2) (h3 : q3 = f 3) (h4 : q4 = f 4) (h5 : q5 = f 5) (h6 : q6 = f 6) (h7 : q7 = f 7) (h8 : q8 = f 8) (h9 : q9 = f 9) (h10 : q10 = f 10) (h11 : q11 = f 11) (h12 : q12 = f 12) (h13 : q13 = f 13) (h14 : q14 = f 14) (h15 : q15 = f 15) (j : (⟨2, ![1024, 1024]⟩ : Shape).Idx) :
    concatenate (⟨2, ![1024, 1024]⟩ : Shape) 0 [⟨⟨2, ![64, 1024]⟩, q0⟩, ⟨⟨2, ![64, 1024]⟩, q1⟩, ⟨⟨2, ![64, 1024]⟩, q2⟩, ⟨⟨2, ![64, 1024]⟩, q3⟩, ⟨⟨2, ![64, 1024]⟩, q4⟩, ⟨⟨2, ![64, 1024]⟩, q5⟩, ⟨⟨2, ![64, 1024]⟩, q6⟩, ⟨⟨2, ![64, 1024]⟩, q7⟩, ⟨⟨2, ![64, 1024]⟩, q8⟩, ⟨⟨2, ![64, 1024]⟩, q9⟩, ⟨⟨2, ![64, 1024]⟩, q10⟩, ⟨⟨2, ![64, 1024]⟩, q11⟩, ⟨⟨2, ![64, 1024]⟩, q12⟩, ⟨⟨2, ![64, 1024]⟩, q13⟩, ⟨⟨2, ![64, 1024]⟩, q14⟩, ⟨⟨2, ![64, 1024]⟩, q15⟩] h j
      = f ⟨(j 0).val / 64, by have : (j 0).val < 1024 := (j 0).isLt; omega⟩ (ix2 ⟨(j 0).val % 64, by omega⟩ (j 1)) := by
  subst h0 h1 h2 h3 h4 h5 h6 h7 h8 h9 h10 h11 h12 h13 h14 h15
  exact rows_apply f h j

/-- A buffer stored into through eight consecutive one-row slabs: inside the eight rows it reads the slab of its row, elsewhere what it held. -/
theorem slabs_apply {e : EltTy} (v : View sig κ sp (⟨3, ![64, 64, 1024]⟩ : Shape) e) (f : v.ty.Contents Val) (b : Nat) (off : Fin 8 → Fin 3 → Nat)
    (hoff : ∀ n, off n = ![b + n.val, 0, 0]) (inb : ∀ n a, off n a + (![1, 64, 1024] : Fin 3 → Nat) a ≤ (⟨3, ![64, 64, 1024]⟩ : Shape).size a)
    (p : Fin 8 → ((⟨3, ![1, 64, 1024]⟩ : Shape).Idx → Val e)) (y : (⟨3, ![64, 64, 1024]⟩ : Shape).Idx) :
    v.read Val (v.writes Val f [⟨Rect.unit (off 7) ![1, 64, 1024] (inb 7), p 7⟩, ⟨Rect.unit (off 6) ![1, 64, 1024] (inb 6), p 6⟩,
      ⟨Rect.unit (off 5) ![1, 64, 1024] (inb 5), p 5⟩, ⟨Rect.unit (off 4) ![1, 64, 1024] (inb 4), p 4⟩,
      ⟨Rect.unit (off 3) ![1, 64, 1024] (inb 3), p 3⟩, ⟨Rect.unit (off 2) ![1, 64, 1024] (inb 2), p 2⟩,
      ⟨Rect.unit (off 1) ![1, 64, 1024] (inb 1), p 1⟩, ⟨Rect.unit (off 0) ![1, 64, 1024] (inb 0), p 0⟩]) y
      = if h : b ≤ (y 0).val ∧ (y 0).val < b + 8 then p ⟨(y 0).val - b, by omega⟩ (ix3 0 (y 1) (y 2)) else v.read Val f y := by
  obtain rfl : off = fun n => ![b + n.val, 0, 0] := funext hoff
  have hit : ∀ (n : Fin 8) (L : List (View.Piece Val (⟨3, ![64, 64, 1024]⟩ : Shape) e)), (y 0).val = b + n.val →
      v.read Val (v.writes Val f (⟨Rect.unit ![b + n.val, 0, 0] ![1, 64, 1024] (inb n), p n⟩ :: L)) y
        = if h : b ≤ (y 0).val ∧ (y 0).val < b + 8 then p ⟨(y 0).val - b, by omega⟩ (ix3 0 (y 1) (y 2)) else v.read Val f y := by
    intro n L hn
    have hn8 := n.isLt
    rw [dif_pos ⟨by omega, by omega⟩]
    rw [read_box_hit v f (off := ![b + n.val, 0, 0]) (size := ![1, 64, 1024]) (inb n) (p n) L (ix3 0 (y 1) (y 2)) y (fun a => by
      match a with
      | ⟨0, _⟩ => exact hn
      | ⟨1, _⟩ => exact (Nat.zero_add _).symm
      | ⟨2, _⟩ => exact (Nat.zero_add _).symm)]
    congr 1
    apply Fin.ext
    show n.val = (y 0).val - b
    omega
  have miss : ∀ (n : Fin 8) (L : List (View.Piece Val (⟨3, ![64, 64, 1024]⟩ : Shape) e)), (y 0).val ≠ b + n.val →
      v.read Val (v.writes Val f (⟨Rect.unit ![b + n.val, 0, 0] ![1, 64, 1024] (inb n), p n⟩ :: L)) y = v.read Val (v.writes Val f L) y := by
    intro n L hn
    exact View.read_writes_cons_miss_of_axis v f _ L y 0 (b + n.val) 1 rfl rfl rfl (by omega)
  by_cases h7 : (y 0).val = b + (7 : Fin 8).val
  · exact hit 7 _ h7
  refine (miss 7 _ h7).trans ?_
  by_cases h6 : (y 0).val = b + (6 : Fin 8).val
  · exact hit 6 _ h6
  refine (miss 6 _ h6).trans ?_
  by_cases h5 : (y 0).val = b + (5 : Fin 8).val
  · exact hit 5 _ h5
  refine (miss 5 _ h5).trans ?_
  by_cases h4 : (y 0).val = b + (4 : Fin 8).val
  · exact hit 4 _ h4
  refine (miss 4 _ h4).trans ?_
  by_cases h3 : (y 0).val = b + (3 : Fin 8).val
  · exact hit 3 _ h3
  refine (miss 3 _ h3).trans ?_
  by_cases h2 : (y 0).val = b + (2 : Fin 8).val
  · exact hit 2 _ h2
  refine (miss 2 _ h2).trans ?_
  by_cases h1 : (y 0).val = b + (1 : Fin 8).val
  · exact hit 1 _ h1
  refine (miss 1 _ h1).trans ?_
  by_cases h0 : (y 0).val = b + (0 : Fin 8).val
  · exact hit 0 _ h0
  refine (miss 0 _ h0).trans ?_
  have e7 : ((7 : Fin 8).val) = 7 := rfl
  have e6 : ((6 : Fin 8).val) = 6 := rfl
  have e5 : ((5 : Fin 8).val) = 5 := rfl
  have e4 : ((4 : Fin 8).val) = 4 := rfl
  have e3 : ((3 : Fin 8).val) = 3 := rfl
  have e2 : ((2 : Fin 8).val) = 2 := rfl
  have e1 : ((1 : Fin 8).val) = 1 := rfl
  have e0 : ((0 : Fin 8).val) = 0 := rfl
  rw [dif_neg (by omega)]
  rfl

/-- `slabs_apply` with each slab's offsets and payload named by the caller. -/
theorem slabs_apply_of {e : EltTy} (v : View sig κ sp (⟨3, ![64, 64, 1024]⟩ : Shape) e) (f : v.ty.Contents Val) (b : Nat)
    (p : Fin 8 → ((⟨3, ![1, 64, 1024]⟩ : Shape).Idx → Val e)) (y : (⟨3, ![64, 64, 1024]⟩ : Shape).Idx)
    {o0 o1 o2 o3 o4 o5 o6 o7 : Fin 3 → Nat}
    {i0 : ∀ a, o0 a + (![1, 64, 1024] : Fin 3 → Nat) a ≤ (⟨3, ![64, 64, 1024]⟩ : Shape).size a} {q0 : (⟨3, ![1, 64, 1024]⟩ : Shape).Idx → Val e}
    (ho0 : o0 = ![b + 0, 0, 0]) (hq0 : q0 = p 0)
    {i1 : ∀ a, o1 a + (![1, 64, 1024] : Fin 3 → Nat) a ≤ (⟨3, ![64, 64, 1024]⟩ : Shape).size a} {q1 : (⟨3, ![1, 64, 1024]⟩ : Shape).Idx → Val e}
    (ho1 : o1 = ![b + 1, 0, 0]) (hq1 : q1 = p 1)
    {i2 : ∀ a, o2 a + (![1, 64, 1024] : Fin 3 → Nat) a ≤ (⟨3, ![64, 64, 1024]⟩ : Shape).size a} {q2 : (⟨3, ![1, 64, 1024]⟩ : Shape).Idx → Val e}
    (ho2 : o2 = ![b + 2, 0, 0]) (hq2 : q2 = p 2)
    {i3 : ∀ a, o3 a + (![1, 64, 1024] : Fin 3 → Nat) a ≤ (⟨3, ![64, 64, 1024]⟩ : Shape).size a} {q3 : (⟨3, ![1, 64, 1024]⟩ : Shape).Idx → Val e}
    (ho3 : o3 = ![b + 3, 0, 0]) (hq3 : q3 = p 3)
    {i4 : ∀ a, o4 a + (![1, 64, 1024] : Fin 3 → Nat) a ≤ (⟨3, ![64, 64, 1024]⟩ : Shape).size a} {q4 : (⟨3, ![1, 64, 1024]⟩ : Shape).Idx → Val e}
    (ho4 : o4 = ![b + 4, 0, 0]) (hq4 : q4 = p 4)
    {i5 : ∀ a, o5 a + (![1, 64, 1024] : Fin 3 → Nat) a ≤ (⟨3, ![64, 64, 1024]⟩ : Shape).size a} {q5 : (⟨3, ![1, 64, 1024]⟩ : Shape).Idx → Val e}
    (ho5 : o5 = ![b + 5, 0, 0]) (hq5 : q5 = p 5)
    {i6 : ∀ a, o6 a + (![1, 64, 1024] : Fin 3 → Nat) a ≤ (⟨3, ![64, 64, 1024]⟩ : Shape).size a} {q6 : (⟨3, ![1, 64, 1024]⟩ : Shape).Idx → Val e}
    (ho6 : o6 = ![b + 6, 0, 0]) (hq6 : q6 = p 6)
    {i7 : ∀ a, o7 a + (![1, 64, 1024] : Fin 3 → Nat) a ≤ (⟨3, ![64, 64, 1024]⟩ : Shape).size a} {q7 : (⟨3, ![1, 64, 1024]⟩ : Shape).Idx → Val e}
    (ho7 : o7 = ![b + 7, 0, 0]) (hq7 : q7 = p 7)
    : v.read Val (v.writes Val f [⟨Rect.unit o7 ![1, 64, 1024] i7, q7⟩, ⟨Rect.unit o6 ![1, 64, 1024] i6, q6⟩, ⟨Rect.unit o5 ![1, 64, 1024] i5, q5⟩, ⟨Rect.unit o4 ![1, 64, 1024] i4, q4⟩, ⟨Rect.unit o3 ![1, 64, 1024] i3, q3⟩, ⟨Rect.unit o2 ![1, 64, 1024] i2, q2⟩, ⟨Rect.unit o1 ![1, 64, 1024] i1, q1⟩, ⟨Rect.unit o0 ![1, 64, 1024] i0, q0⟩]) y
      = if h : b ≤ (y 0).val ∧ (y 0).val < b + 8 then p ⟨(y 0).val - b, by omega⟩ (ix3 0 (y 1) (y 2)) else v.read Val f y := by
  subst ho0 hq0 ho1 hq1 ho2 hq2 ho3 hq3 ho4 hq4 ho5 hq5 ho6 hq6 ho7 hq7
  have hall : ∀ n : Fin 8, ∀ a, (![b + n.val, 0, 0] : Fin 3 → Nat) a + (![1, 64, 1024] : Fin 3 → Nat) a ≤ (⟨3, ![64, 64, 1024]⟩ : Shape).size a := by
    intro n a
    fin_cases n
    · exact i0 a
    · exact i1 a
    · exact i2 a
    · exact i3 a
    · exact i4 a
    · exact i5 a
    · exact i6 a
    · exact i7 a
  exact slabs_apply v f b (fun n => ![b + n.val, 0, 0]) (fun _ => rfl) hall p y

/-- A buffer stored into through one band of whole rows: inside the band it reads the band, elsewhere what it held. -/
theorem band_apply {e : EltTy} {R W N : Nat} (v : View sig κ sp (⟨2, ![N, W]⟩ : Shape) e) (f : v.ty.Contents Val) (b : Nat) (off : Fin 2 → Nat)
    (hoff : off = ![b, 0]) (inb : ∀ a, off a + (![R, W] : Fin 2 → Nat) a ≤ (⟨2, ![N, W]⟩ : Shape).size a)
    (p : (⟨2, ![R, W]⟩ : Shape).Idx → Val e) (y : (⟨2, ![N, W]⟩ : Shape).Idx) :
    v.read Val (v.writes Val f [⟨Rect.unit off ![R, W] inb, p⟩]) y
      = if h : b ≤ (y 0).val ∧ (y 0).val < b + R then p (ix2 ⟨(y 0).val - b, by omega⟩ (y 1)) else v.read Val f y := by
  subst hoff
  by_cases h : b ≤ (y 0).val ∧ (y 0).val < b + R
  · rw [dif_pos h]
    exact read_box_hit v f (off := ![b, 0]) (size := ![R, W]) inb p [] (ix2 ⟨(y 0).val - b, by omega⟩ (y 1)) y fun a => by
      match a with
      | ⟨0, _⟩ => show (y 0).val = b + ((y 0).val - b); omega
      | ⟨1, _⟩ => exact (Nat.zero_add _).symm
  · rw [dif_neg h]
    exact View.read_writes_cons_miss_of_axis v f _ [] y 0 b R rfl rfl rfl (by omega)

end Cert.Reads

end
-- ==== Proof.KernelIdealSetup.lean ====
/- The set-up of the kernel's launch: what memory the tiled region finds, its branch conditions over the grid, and the
   names of its buffers. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What core `c`'s buffers hold once the host operations before the region have run. -/
abbrev V (c : Dev nD) (b : Ref sig .tc) : Buf (Elt F) ((c : Thread nD τ).loc b) := StableHlo.after hostOps0 (fun b => m (c, b)) b

/-- No host operation before the region allocates. -/
theorem hostOps0_fresh : (hostOps0 : List (HloOp τ sig (Elt F))).Forall fun op => op.fresh = ∅ := by
  simp only [List.Forall]; repeat' constructor

set_option maxHeartbeats 800000 in
/-- The program is its host operations followed by the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The region finds argument 0 as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 1 as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 2 as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 3 as it was launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 4 as it was launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 5 as it was launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 6 as it was launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 7 as it was launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The region finds argument 8 as it was launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The prefetched table of block columns -/

/-- The table's contents when the region is entered. -/
def tbl : pre0.Contents (Elt F) := fun j => V m (0 : Dev nD) (pre0.ref j)
/-- Every core's table holds them (there is one core). -/
theorem V_pre (c : Dev nD) (j : Fin 1) : V m c (pre0.ref j) = tbl m j := by
  obtain rfl : c = 0 := Subsingleton.elim _ _; rfl
/-- They are admissible: no index map of a window reads the table. -/
abbrev adm : (pcfg0 (F := F)).Adm := ⟨tbl m, trivial⟩
/-- The pipeline at those contents. -/
abbrev cfgM : Pipeline.Cfg sig Λ₀ := cfg0 (adm m)

/-- The table as the body is handed it. -/
abbrev tbM : Memref sig .tc .smem S1024 .i32 := Memref.whole main_arg8
abbrev htbM : tbM.IsWhole := Memref.isWhole_whole _
/-- The table's buffer on core `c`, and it held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half of the table that the region hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point. -/
theorem before_6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The branches of the body over the grid -/

/-- The first branch runs at the points before 8. -/
theorem hcond1 : ∀ t : Fin grid0.N, k0_cond1 (grid0.coords t) = 1#1 ↔ t.val < 8 :=
  (by decide +kernel : ∀ t : Fin grid0.N, k0_cond1 (grid0.coords t) = 1#1 ↔ t.val < 8)
/-- The second branch runs at point 8. -/
theorem hcond2 : ∀ t : Fin grid0.N, k0_cond2 (grid0.coords t) = 1#1 ↔ t.val = 8 :=
  (by decide +kernel : ∀ t : Fin grid0.N, k0_cond2 (grid0.coords t) = 1#1 ↔ t.val = 8)
/-- The third branch runs at the points after 8. -/
theorem hcond3 : ∀ t : Fin grid0.N, k0_cond3 (grid0.coords t) = 1#1 ↔ 8 < t.val :=
  (by decide +kernel : ∀ t : Fin grid0.N, k0_cond3 (grid0.coords t) = 1#1 ↔ 8 < t.val)
/-- The grid's one coordinate is the point. -/
theorem coord_eq : ∀ t : Fin grid0.N, ((grid0.coords t) 0).val = t.val :=
  (by decide +kernel : ∀ t : Fin grid0.N, ((grid0.coords t) 0).val = t.val)
/-- Window 0 is never idle. -/
theorem live_0 : ∀ t : Fin (cfgM m).N, (cfgM m).idle 0 (grid0.coords t) = false :=
  (fun _ => rfl : ∀ t : Fin grid0.N, idle0 0 (grid0.coords t) = false)
/-- Window 1 is never idle. -/
theorem live_1 : ∀ t : Fin (cfgM m).N, (cfgM m).idle 1 (grid0.coords t) = false :=
  (fun _ => rfl : ∀ t : Fin grid0.N, idle0 1 (grid0.coords t) = false)
/-- Window 2 is never idle. -/
theorem live_2 : ∀ t : Fin (cfgM m).N, (cfgM m).idle 2 (grid0.coords t) = false :=
  (fun _ => rfl : ∀ t : Fin grid0.N, idle0 2 (grid0.coords t) = false)
/-- Window 3 is never idle. -/
theorem live_3 : ∀ t : Fin (cfgM m).N, (cfgM m).idle 3 (grid0.coords t) = false :=
  (fun _ => rfl : ∀ t : Fin grid0.N, idle0 3 (grid0.coords t) = false)
/-- Window 4 is never idle. -/
theorem live_4 : ∀ t : Fin (cfgM m).N, (cfgM m).idle 4 (grid0.coords t) = false :=
  (fun _ => rfl : ∀ t : Fin grid0.N, idle0 4 (grid0.coords t) = false)
/-- Window 5 is never idle. -/
theorem live_5 : ∀ t : Fin (cfgM m).N, (cfgM m).idle 5 (grid0.coords t) = false :=
  (fun _ => rfl : ∀ t : Fin grid0.N, idle0 5 (grid0.coords t) = false)
/-- Window 6 is never idle. -/
theorem live_6 : ∀ t : Fin (cfgM m).N, (cfgM m).idle 6 (grid0.coords t) = false :=
  (fun _ => rfl : ∀ t : Fin grid0.N, idle0 6 (grid0.coords t) = false)
/-- The output window is idle up to point 8, -/
theorem idle_7 : ∀ t : Fin (cfgM m).N, t.val ≤ 8 → (cfgM m).idle 7 (grid0.coords t) = true :=
  (by decide +kernel : ∀ t : Fin grid0.N, t.val ≤ 8 → idle0 7 (grid0.coords t) = true)
/-- and live from then on. -/
theorem live_7 : ∀ t : Fin (cfgM m).N, 8 < t.val → (cfgM m).idle 7 (grid0.coords t) = false :=
  (by decide +kernel : ∀ t : Fin grid0.N, 8 < t.val → idle0 7 (grid0.coords t) = false)

/-! ## The staging and scratch buffers -/

/-- Window 0's current staging buffer at point `t`. -/
abbrev ms_0 (t : Fin (cfgM m).N) : Memref sig .tc .vmem S512x1024 .f32 := spec0_0.stage ((cfgM m).slots t 0)
abbrev hs_0 (t : Fin (cfgM m).N) : (ms_0 m t).IsWhole := hstage0_0 (((cfgM m).slots t 0).cast nbuf0_0)

/-- Window 1's current staging buffer at point `t`. -/
abbrev ms_1 (t : Fin (cfgM m).N) : Memref sig .tc .vmem S1024x1024 .bf16 := spec0_1.stage ((cfgM m).slots t 1)
abbrev hs_1 (t : Fin (cfgM m).N) : (ms_1 m t).IsWhole := hstage0_1 (((cfgM m).slots t 1).cast nbuf0_1)

/-- Window 2's current staging buffer at point `t`. -/
abbrev ms_2 (t : Fin (cfgM m).N) : Memref sig .tc .vmem S512x1 .f32 := spec0_2.stage ((cfgM m).slots t 2)
abbrev hs_2 (t : Fin (cfgM m).N) : (ms_2 m t).IsWhole := hstage0_2 (((cfgM m).slots t 2).cast nbuf0_2)

/-- Window 3's current staging buffer at point `t`. -/
abbrev ms_3 (t : Fin (cfgM m).N) : Memref sig .tc .vmem S128x64x64 .f32 := spec0_3.stage ((cfgM m).slots t 3)
abbrev hs_3 (t : Fin (cfgM m).N) : (ms_3 m t).IsWhole := hstage0_3 (((cfgM m).slots t 3).cast nbuf0_3)

/-- Window 4's current staging buffer at point `t`. -/
abbrev ms_4 (t : Fin (cfgM m).N) : Memref sig .tc .vmem S4096x1 .f32 := spec0_4.stage ((cfgM m).slots t 4)
abbrev hs_4 (t : Fin (cfgM m).N) : (ms_4 m t).IsWhole := hstage0_4 (((cfgM m).slots t 4).cast nbuf0_4)

/-- Window 5's current staging buffer at point `t`. -/
abbrev ms_5 (t : Fin (cfgM m).N) : Memref sig .tc .vmem S256x4096 .f32 := spec0_5.stage ((cfgM m).slots t 5)
abbrev hs_5 (t : Fin (cfgM m).N) : (ms_5 m t).IsWhole := hstage0_5 (((cfgM m).slots t 5).cast nbuf0_5)

/-- Window 6's current staging buffer at point `t`. -/
abbrev ms_6 (t : Fin (cfgM m).N) : Memref sig .tc .vmem S1x256 .f32 := spec0_6.stage ((cfgM m).slots t 6)
abbrev hs_6 (t : Fin (cfgM m).N) : (ms_6 m t).IsWhole := hstage0_6 (((cfgM m).slots t 6).cast nbuf0_6)

/-- Window 7's current staging buffer at point `t`. -/
abbrev ms_7 (t : Fin (cfgM m).N) : Memref sig .tc .vmem S1024x256 .f32 := spec0_7.stage ((cfgM m).slots t 7)
abbrev hs_7 (t : Fin (cfgM m).N) : (ms_7 m t).IsWhole := hstage0_7 (((cfgM m).slots t 7).cast nbuf0_7)

/-- The first layer's output, block-sparse layer's output and unpacked blocks: the kernel's scratch buffers. -/
abbrev scH1 : Memref sig .tc .vmem S4096x1024 .bf16 := Memref.whole cc0_scratch0
abbrev scH2 : Memref sig .tc .vmem S4096x1024 .bf16 := Memref.whole cc0_scratch1
abbrev scV : Memref sig .tc .vmem S64x64x1024 .bf16 := Memref.whole cc0_scratch2

/-- What the region holds beside the windows: the scratch buffers at some contents and the generator register. -/
theorem PhiA_eq (c : Dev nD) :
    (Pipeline.ΦA spec0 c : sProp 𝕄)
      = iprop(iprop((∃ d, owns (c : Thread nD τ) scH1 fullShare d) ∗ (∃ d, owns (c : Thread nD τ) scH2 fullShare d) ∗ (∃ d, owns (c : Thread nD τ) scV fullShare d)) ∗ (∃ r, prngReg c r)) := by
  unfold Pipeline.ΦA; rw [scopedRest0_eq]; simp only [scH1, scH2, scV, owns_whole]; try rfl

/-- The body at point `t`, on what the pipeline calls it with. -/
abbrev bodyAt (t : Fin (cfgM m).N) : Prog (TpuEff nD τ sig (Elt F) Λ₀ .tc) PUnit :=
  cc0__mlp_kernel (grid0.coords t) (Memref.whole main_arg8) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _) (Memref.whole cc0_scratch1) (Memref.isWhole_whole _) (Memref.whole cc0_scratch2) (Memref.isWhole_whole _)

/-- The body table's row at point `t` is that body. -/
theorem defs₀_row (t : Fin (cfgM m).N) :
    defs₀ (F := F) .tc (cfgM m).body ((cfgM m).bodyArgs t ((cfgM m).slots t)) = bodyAt m t := by
  unfold defs₀; rw [Defs.onTc_tc]

end Cert.KernelIdeal.Hand

end
-- ==== Proof.KernelIdealFirst.lean ====
/- The body at the points of the first branch: one row tile of the first layer, and eight block rows unpacked. -/
module

public import proofs.«01_k».proof.Proof.Gen.KernelIdeal.Launch
public import proofs.«01_k».proof.Proof.KernelIdealSetup
public import proofs.«01_k».proof.Proof.Reads
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Sixteen blocks of values narrowed and set side by side: one block row as a dense 64 × 1024 slab. -/
def slabOf (f : Fin 16 → Vec F S1x64x64 .f32) : FVec F S1x64x1024 .bf16 :=
  k0_pay1 (concatenate S64x1024 1 [⟨S64x64, k0_pay5 (f 0)⟩, ⟨S64x64, k0_pay5 (f 1)⟩, ⟨S64x64, k0_pay5 (f 2)⟩, ⟨S64x64, k0_pay5 (f 3)⟩, ⟨S64x64, k0_pay5 (f 4)⟩, ⟨S64x64, k0_pay5 (f 5)⟩, ⟨S64x64, k0_pay5 (f 6)⟩, ⟨S64x64, k0_pay5 (f 7)⟩, ⟨S64x64, k0_pay5 (f 8)⟩, ⟨S64x64, k0_pay5 (f 9)⟩, ⟨S64x64, k0_pay5 (f 10)⟩, ⟨S64x64, k0_pay5 (f 11)⟩, ⟨S64x64, k0_pay5 (f 12)⟩, ⟨S64x64, k0_pay5 (f 13)⟩, ⟨S64x64, k0_pay5 (f 14)⟩, ⟨S64x64, k0_pay5 (f 15)⟩]
    concatenates_S64x64_S64x64_S64x64_S64x64_S64x64_S64x64_S64x64_S64x64_S64x64_S64x64_S64x64_S64x64_S64x64_S64x64_S64x64_S64x64_S64x1024_d1)

/-- An entry of a slab: the entry of the block its column falls in, narrowed. -/
theorem slabOf_apply (f : Fin 16 → Vec F S1x64x64 .f32) (a : Fin 1) (p : Fin 64) (q : Fin 1024) :
    slabOf f (ix3 a p q) = truncf .bf16 (f ⟨q.val / 64, by omega⟩) bitsLt_bf16_f32 (ix3 0 p ⟨q.val % 64, by omega⟩) := by
  unfold slabOf k0_pay1
  refine (ValueIdx.shapeCast_ab_1ab_apply _ _ a p q).trans ?_
  refine (Reads.columns_apply (fun k => k0_pay5 (f k)) _ (ix2 p q)).trans ?_
  unfold k0_pay5 truncf
  exact congrArg _ (ValueIdx.shapeCast_1ab_ab_apply _ _ _ _)

/-- The first layer's scratch after a tile of 512 rows is stored at tile `i`. -/
def fillH (i : Nat) (x2 : Vec F S512x1024 .f32) (x3 : Vec F S1024x1024 .bf16) (x4 : Vec F S512x1 .f32) (d10 : Vec F S4096x1024 .bf16) :
    Vec F S4096x1024 .bf16 := fun y =>
  if h : 512 * i ≤ (y 0).val ∧ (y 0).val < 512 * i + 512 then k0_pay4 x2 x3 x4 (ix2 ⟨(y 0).val - 512 * i, by omega⟩ (y 1)) else d10 y

/-- The unpacked values' scratch after eight slabs are stored at tile `i`. -/
def fillV (i : Nat) (x5 : Vec F S128x64x64 .f32) (d12 : Vec F S64x64x1024 .bf16) : Vec F S64x64x1024 .bf16 := fun y =>
  if h : 8 * i ≤ (y 0).val ∧ (y 0).val < 8 * i + 8 then
    truncf .bf16 x5 bitsLt_bf16_f32 (ix3 ⟨16 * ((y 0).val - 8 * i) + (y 2).val / 64, by have : (y 2).val < 1024 := (y 2).isLt; omega⟩ (y 1) ⟨(y 2).val % 64, by omega⟩)
  else d12 y

/-- The row offset of the tile stored at a point. -/
theorem off1_eq : ∀ t : Fin grid0.N, k0_off1 (grid0.coords t) = ![512 * t.val, 0] := by decide +kernel

/-- The slab offsets stored at a point of the first branch. -/
theorem off2_eq : ∀ (t : Fin grid0.N) (n : Fin 8), k0_off2 (grid0.coords t) (BitVec.ofNat 32 n.val) = ![8 * t.val + n.val, 0, 0] := by decide +kernel

/-- A block of the values tile lies inside it. -/
theorem tile_inb (n : Fin 8) (k : Fin 16) (a : Fin 3) : (![16 * n.val + k.val, 0, 0] : Fin 3 → Nat) a + S1x64x64.size a ≤ S128x64x64.size a := by
  match a with
  | ⟨0, _⟩ => show 16 * n.val + k.val + 1 ≤ 128; omega
  | ⟨1, _⟩ => exact Nat.le_refl 64
  | ⟨2, _⟩ => exact Nat.le_refl 64

set_option maxHeartbeats 400000 in
/-- The first branch: the first layer's tile goes to its 512 rows of the scratch, and eight block rows of the values are unpacked
    to their slabs; everything else stays. -/
theorem run_first (c : Dev nD) (t : Fin grid0.N) (arg2 : Memref sig .tc .vmem S512x1024 .f32) (harg2 : arg2.IsWhole) (arg3 : Memref sig .tc .vmem S1024x1024 .bf16) (harg3 : arg3.IsWhole) (arg4 : Memref sig .tc .vmem S512x1 .f32) (harg4 : arg4.IsWhole) (arg5 : Memref sig .tc .vmem S128x64x64 .f32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S4096x1024 .bf16) (harg10 : arg10.IsWhole) (arg11 : Memref sig .tc .vmem S4096x1024 .bf16) (harg11 : arg11.IsWhole) (arg12 : Memref sig .tc .vmem S64x64x1024 .bf16) (harg12 : arg12.IsWhole)
    (hc1 : k0_cond1 (grid0.coords t) = 1#1) (hc2 : ¬k0_cond2 (grid0.coords t) = 1#1) (hc3 : ¬k0_cond3 (grid0.coords t) = 1#1)
    (x2 : Vec F S512x1024 .f32) (x3 : Vec F S1024x1024 .bf16) (x4 : Vec F S512x1 .f32) (x5 : Vec F S128x64x64 .f32)
    (d10 : Vec F S4096x1024 .bf16) (d12 : Vec F S64x64x1024 .bf16) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg10 fullShare d10 ∗ owns (c : Thread nD τ) arg12 fullShare d12
            ∗ (iprop(owns (c : Thread nD τ) arg2 fullShare x2 ∗ owns (c : Thread nD τ) arg3 fullShare x3 ∗ owns (c : Thread nD τ) arg4 fullShare x4 ∗ owns (c : Thread nD τ) arg5 fullShare x5
              ∗ owns (c : Thread nD τ) arg10 fullShare (fillH t.val x2 x3 x4 d10) ∗ owns (c : Thread nD τ) arg12 fullShare (fillV t.val x5 d12)) -∗ K ⟨⟩))
          ⊢ wp frame (wpE (defs₀ (F := F)) Variants.none c none) E (cc0__mlp_kernel (grid0.coords t) tbM htbM arg2 harg2 arg3 harg3 arg4 harg4 arg5 harg5 arg6 harg6 arg7 harg7 arg8 harg8 arg9 harg9 arg10 harg10 arg11 harg11 arg12 harg12) K := by
    intro E K
    simp only [cc0__mlp_kernel_eq_skeleton]; unfold cc0__mlp_kernel_skel
    unfold owns
    iintro ⟨⟨%f2, %hf2, H2⟩, ⟨%f3, %hf3, H3⟩, ⟨%f4, %hf4, H4⟩, ⟨%f5, %hf5, H5⟩, ⟨%f10, %hf10, H10⟩, ⟨%f12, %hf12, H12⟩, Hk⟩
    obtain rfl := harg2.eq_unread hf2
    obtain rfl := harg3.eq_unread hf3
    obtain rfl := harg4.eq_unread hf4
    obtain rfl := harg5.eq_unread hf5
    obtain rfl := harg10.eq_unread hf10
    obtain rfl := harg12.eq_unread hf12
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H10]
    · iexists _; isplitr [H10]; rotate_left
      · iexact H10
      ipureintro
      funext y
      refine (Reads.band_apply (R := 512) (W := 1024) (N := 4096) arg10.view _ (512 * t.val) _ (off1_eq t) _ _ y).trans ?_
      unfold fillH
      rw [harg10.read_unread, Reads.readAt_whole harg2 x2 Reads.zero2, Reads.readAt_whole harg3 x3 Reads.zero2, Reads.readAt_whole harg4 x4 Reads.zero2]
    · iexists _; isplitr [H12]; rotate_left
      · iexact H12
      ipureintro
      funext y
      refine (Reads.slabs_apply_of arg12.view _ (8 * t.val)
        (fun n => slabOf fun k => View.readAt (Elt F) arg5.view (Rect.unit (s := S128x64x64) ![16 * n.val + k.val, 0, 0] S1x64x64.size (tile_inb n k)).toLoadRect (harg5.unread x5)) y
        (off2_eq t 0) ?_ (off2_eq t 1) ?_ (off2_eq t 2) ?_ (off2_eq t 3) ?_ (off2_eq t 4) ?_ (off2_eq t 5) ?_ (off2_eq t 6) ?_ (off2_eq t 7) ?_).trans ?_
      · rfl
      · rfl
      · rfl
      · rfl
      · rfl
      · rfl
      · rfl
      · rfl
      unfold fillV
      rw [harg12.read_unread]
      split_ifs with h
      · refine (slabOf_apply _ _ _ _).trans ?_
        show truncf .bf16 _ bitsLt_bf16_f32 _ = _
        unfold truncf
        rw [Reads.readAt_box harg5 x5 (tile_inb _ _) _ (ix3 ⟨16 * ((y 0).val - 8 * t.val) + (y 2).val / 64, by have : (y 2).val < 1024 := (y 2).isLt; omega⟩ (y 1) ⟨(y 2).val % 64, by omega⟩)]
        intro a
        match a with
        | ⟨0, _⟩ => rfl
        | ⟨1, _⟩ => exact (Nat.zero_add _).symm
        | ⟨2, _⟩ => exact (Nat.zero_add _).symm
      · rfl

end Cert.KernelIdeal.Hand

end
-- ==== Proof.KernelIdealLast.lean ====
/- The body at the points of the third branch: one column tile of the last layer. -/
module

public import proofs.«01_k».proof.Proof.Gen.KernelIdeal.Launch
public import proofs.«01_k».proof.Proof.KernelIdealSetup
public import proofs.«01_k».proof.Proof.Reads
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of the third branch the body leaves `k0_pay3` of the block-sparse layer's output, the weight tile and the bias tile in
    the output's staging buffer. -/
theorem run_last (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S512x1 .f32) (harg4 : arg4.IsWhole) (arg5 : Memref sig .tc .vmem S128x64x64 .f32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S4096x1024 .bf16) (harg10 : arg10.IsWhole) (arg11 : Memref sig .tc .vmem S4096x1024 .bf16) (harg11 : arg11.IsWhole) (arg12 : Memref sig .tc .vmem S64x64x1024 .bf16) (harg12 : arg12.IsWhole)
    (hc1 : ¬k0_cond1 i = 1#1) (hc2 : ¬k0_cond2 i = 1#1) (hc3 : k0_cond3 i = 1#1)
    (x7 : Vec F S256x4096 .f32) (x8 : Vec F S1x256 .f32) (d11 : Vec F S4096x1024 .bf16) :
      ∀ (E : Set ℕ) (K : PUnit → sProp 𝕄),
        iprop(owns (c : Thread nD τ) arg7 fullShare x7 ∗ owns (c : Thread nD τ) arg8 fullShare x8 ∗ (∃ d, owns (c : Thread nD τ) arg9 fullShare d) ∗ owns (c : Thread nD τ) arg11 fullShare d11
            ∗ (iprop(owns (c : Thread nD τ) arg7 fullShare x7 ∗ owns (c : Thread nD τ) arg8 fullShare x8 ∗ owns (c : Thread nD τ) arg9 fullShare (k0_pay3 d11 x7 x8) ∗ owns (c : Thread nD τ) arg11 fullShare d11) -∗ K ⟨⟩))
          ⊢ wp frame (wpE (defs₀ (F := F)) Variants.none c none) E (cc0__mlp_kernel i tbM htbM arg2 harg2 arg3 harg3 arg4 harg4 arg5 harg5 arg6 harg6 arg7 harg7 arg8 harg8 arg9 harg9 arg10 harg10 arg11 harg11 arg12 harg12) K := by
    intro E K
    simp only [cc0__mlp_kernel_eq_skeleton]; unfold cc0__mlp_kernel_skel
    unfold owns
    iintro ⟨⟨%f7, %hf7, H7⟩, ⟨%f8, %hf8, H8⟩, ⟨%d9, %f9, -, H9⟩, ⟨%f11, %hf11, H11⟩, Hk⟩
    obtain rfl := harg7.eq_unread hf7
    obtain rfl := harg8.eq_unread hf8
    obtain rfl := harg11.eq_unread hf11
    sl_exec (disch := first | sl_exact hc1 | sl_exact hc2 | sl_exact hc3)
    sl_step
    iapply Hk
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      rw [Reads.readAt_whole harg11 d11 Reads.zero2, Reads.readAt_whole harg7 x7 Reads.zero2, Reads.readAt_whole harg8 x8 Reads.zero2]
      funext y
      exact Reads.read_box_hit arg9.view f9 (off := ![0, 0]) (size := S1024x256.size) _ _ [] y y fun a => by fin_cases a <;> simp
    iexists _; isplitr; · ipureintro; exact harg11.read_unread _
    iexact H11

end Cert.KernelIdeal.Hand

end
-- ==== Proof.KernelIdealRows.lean ====
/- The body at the point of the second branch: the block-sparse layer, row block by row block. -/
module

public import proofs.«01_k».proof.Proof.Gen.KernelIdeal.Launch
public import proofs.«01_k».proof.Proof.KernelIdealSetup
public import proofs.«01_k».proof.Proof.Reads
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first row of a gathered block. -/
theorem mul64 (v : BitVec 32) (hv : v.toNat < 64) : (Scalar.muli v 64#32).toNat = 64 * v.toNat := by
  show (v * 64#32).toNat = _
  rw [BitVec.toNat_mul]
  have : (64#32 : BitVec 32).toNat = 64 := rfl
  rw [this]
  omega

/-- A gathered block starts at a multiple of 64. -/
theorem mult_dvd (v : BitVec 32) (hv : v.toNat < 64) : 64 ∣ (k0_mult1 v).toNat := by
  show 64 ∣ (Scalar.muli v 64#32).toNat
  rw [mul64 v hv]
  exact Dvd.intro _ rfl

/-- Where a gathered block starts. -/
theorem block_off (v : BitVec 32) (hv : v.toNat < 64) : k0_off5 v = ![64 * v.toNat, 0] := by
  show ![(Scalar.muli v 64#32).toNat, 0] = _
  rw [mul64 v hv]

/-- A gathered block lies inside the first layer's scratch. -/
theorem block_inb (v : BitVec 32) (hv : v.toNat < 64) (a : Fin 2) : k0_off5 v a + S64x1024.size a ≤ S4096x1024.size a := by
  rw [block_off v hv]
  match a with
  | ⟨0, _⟩ => show 64 * v.toNat + 64 ≤ 4096; omega
  | ⟨1, _⟩ => exact Nat.le_refl 1024

/-- A column below 64 meets the side condition of gather 1. -/
theorem chk1 (i : grid0.Coords) (v : BitVec 32) (hv : v.toNat < 64) : k0_chk1 i v := ⟨fun _ => mult_dvd v hv, fun _ => block_inb v hv⟩
/-- A column below 64 meets the side condition of gather 2. -/
theorem chk2 (i : grid0.Coords) (v : BitVec 32) (hv : v.toNat < 64) : k0_chk2 i v := ⟨fun _ => mult_dvd v hv, fun _ => block_inb v hv⟩
/-- A column below 64 meets the side condition of gather 3. -/
theorem chk3 (i : grid0.Coords) (v : BitVec 32) (hv : v.toNat < 64) : k0_chk3 i v := ⟨fun _ => mult_dvd v hv, fun _ => block_inb v hv⟩
/-- A column below 64 meets the side condition of gather 4. -/
theorem chk4 (i : grid0.Coords) (v : BitVec 32) (hv : v.toNat < 64) : k0_chk4 i v := ⟨fun _ => mult_dvd v hv, fun _ => block_inb v hv⟩
/-- A column below 64 meets the side condition of gather 5. -/
theorem chk5 (i : grid0.Coords) (v : BitVec 32) (hv : v.toNat < 64) : k0_chk5 i v := ⟨fun _ => mult_dvd v hv, fun _ => block_inb v hv⟩
/-- A column below 64 meets the side condition of gather 6. -/
theorem chk6 (i : grid0.Coords) (v : BitVec 32) (hv : v.toNat < 64) : k0_chk6 i v := ⟨fun _ => mult_dvd v hv, fun _ => block_inb v hv⟩
/-- A column below 64 meets the side condition of gather 7. -/
theorem chk7 (i : grid0.Coords) (v : BitVec 32) (hv : v.toNat < 64) : k0_chk7 i v := ⟨fun _ => mult_dvd v hv, fun _ => block_inb v hv⟩
/-- A column below 64 meets the side condition of gather 8. -/
theorem chk8 (i : grid0.Coords) (v : BitVec 32) (hv : v.toNat < 64) : k0_chk8 i v := ⟨fun _ => mult_dvd v hv, fun _ => block_inb v hv⟩
/-- A column below 64 meets the side condition of gather 9. -/
theorem chk9 (i : grid0.Coords) (v : BitVec 32) (hv : v.toNat < 64) : k0_chk9 i v := ⟨fun _ => mult_dvd v hv, fun _ => block_inb v hv⟩
/-- A column below 64 meets the side condition of gather 10. -/
theorem chk10 (i : grid0.Coords) (v : BitVec 32) (hv : v.toNat < 64) : k0_chk10 i v := ⟨fun _ => mult_dvd v hv, fun _ => block_inb v hv⟩
/-- A column below 64 meets the side condition of gather 11. -/
theorem chk11 (i : grid0.Coords) (v : BitVec 32) (hv : v.toNat < 64) : k0_chk11 i v := ⟨fun _ => mult_dvd v hv, fun _ => block_inb v hv⟩
/-- A column below 64 meets the side condition of gather 12. -/
theorem chk12 (i : grid0.Coords) (v : BitVec 32) (hv : v.toNat < 64) : k0_chk12 i v := ⟨fun _ => mult_dvd v hv, fun _ => block_inb v hv⟩
/-- A column below 64 meets the side condition of gather 13. -/
theorem chk13 (i : grid0.Coords) (v : BitVec 32) (hv : v.toNat < 64) : k0_chk13 i v := ⟨fun _ => mult_dvd v hv, fun _ => block_inb v hv⟩
/-- A column below 64 meets the side condition of gather 14. -/
theorem chk14 (i : grid0.Coords) (v : BitVec 32) (hv : v.toNat < 64) : k0_chk14 i v := ⟨fun _ => mult_dvd v hv, fun _ => block_inb v hv⟩
/-- A column below 64 meets the side condition of gather 15. -/
theorem chk15 (i : grid0.Coords) (v : BitVec 32) (hv : v.toNat < 64) : k0_chk15 i v := ⟨fun _ => mult_dvd v hv, fun _ => block_inb v hv⟩
/-- A column below 64 meets the side condition of gather 16. -/
theorem chk16 (i : grid0.Coords) (v : BitVec 32) (hv : v.toNat < 64) : k0_chk16 i v := ⟨fun _ => mult_dvd v hv, fun _ => block_inb v hv⟩

/-- The column of block `n`, as the table holds it. -/
def colOf (c : Dev nD) (xt : TbBuf (F := F) c tbM) (n : Fin 1024) : Fin 64 := ⟨(xt (ix1 n)).toNat % 64, Nat.mod_lt _ (by omega)⟩

/-- Row block `j` of the block-sparse layer: its slab of values times the sixteen gathered blocks of the first layer, plus the bias,
    cut at zero. -/
def rowVal (col : Fin 1024 → Fin 64) (d12 : Vec F S64x64x1024 .bf16) (d10 : Vec F S4096x1024 .bf16) (x6 : Vec F S4096x1 .f32) (j : Fin 64) :
    FVec F S64x1024 .bf16 :=
  k0_pay2 (fun z => d12 (ix3 j (z 0) (z 1)))
    (fun z => d10 (ix2 ⟨64 * (col ⟨16 * j.val + (z 0).val / 64, by have : (z 0).val < 1024 := (z 0).isLt; omega⟩).val + (z 0).val % 64, by omega⟩ (z 1)))
    (fun z => x6 (ix2 ⟨64 * j.val + (z 0).val, by have : (z 0).val < 64 := (z 0).isLt; omega⟩ 0))

/-- The block-sparse layer's output, row block by row block. -/
def rowsVal (col : Fin 1024 → Fin 64) (d12 : Vec F S64x64x1024 .bf16) (d10 : Vec F S4096x1024 .bf16) (x6 : Vec F S4096x1 .f32) :
    Vec F S4096x1024 .bf16 := fun y =>
  rowVal col d12 d10 x6 ⟨(y 0).val / 64, by have : (y 0).val < 4096 := (y 0).isLt; omega⟩ (ix2 ⟨(y 0).val % 64, by omega⟩ (y 1))

/-- Where a trip reads its slab, its biases and where it stores. -/
theorem off3_eq : ∀ k : Fin k0_t1_loop.trips, k0_off3 k = ![k.val, 0, 0] := by decide +kernel
theorem off36_eq : ∀ k : Fin k0_t1_loop.trips, k0_off36 k = ![64 * k.val, 0] := by decide +kernel
theorem off37_eq : ∀ k : Fin k0_t1_loop.trips, k0_off37 k = ![64 * k.val, 0] := by decide +kernel
/-- Where a trip reads the sixteen columns of its row. -/
theorem off4_eq : ∀ k : Fin k0_t1_loop.trips, k0_off4 k = ![16 * k.val + 0] := by decide +kernel
theorem off6_eq : ∀ k : Fin k0_t1_loop.trips, k0_off6 k = ![16 * k.val + 1] := by decide +kernel
theorem off8_eq : ∀ k : Fin k0_t1_loop.trips, k0_off8 k = ![16 * k.val + 2] := by decide +kernel
theorem off10_eq : ∀ k : Fin k0_t1_loop.trips, k0_off10 k = ![16 * k.val + 3] := by decide +kernel
theorem off12_eq : ∀ k : Fin k0_t1_loop.trips, k0_off12 k = ![16 * k.val + 4] := by decide +kernel
theorem off14_eq : ∀ k : Fin k0_t1_loop.trips, k0_off14 k = ![16 * k.val + 5] := by decide +kernel
theorem off16_eq : ∀ k : Fin k0_t1_loop.trips, k0_off16 k = ![16 * k.val + 6] := by decide +kernel
theorem off18_eq : ∀ k : Fin k0_t1_loop.trips, k0_off18 k = ![16 * k.val + 7] := by decide +kernel
theorem off20_eq : ∀ k : Fin k0_t1_loop.trips, k0_off20 k = ![16 * k.val + 8] := by decide +kernel
theorem off22_eq : ∀ k : Fin k0_t1_loop.trips, k0_off22 k = ![16 * k.val + 9] := by decide +kernel
theorem off24_eq : ∀ k : Fin k0_t1_loop.trips, k0_off24 k = ![16 * k.val + 10] := by decide +kernel
theorem off26_eq : ∀ k : Fin k0_t1_loop.trips, k0_off26 k = ![16 * k.val + 11] := by decide +kernel
theorem off28_eq : ∀ k : Fin k0_t1_loop.trips, k0_off28 k = ![16 * k.val + 12] := by decide +kernel
theorem off30_eq : ∀ k : Fin k0_t1_loop.trips, k0_off30 k = ![16 * k.val + 13] := by decide +kernel
theorem off32_eq : ∀ k : Fin k0_t1_loop.trips, k0_off32 k = ![16 * k.val + 14] := by decide +kernel
theorem off34_eq : ∀ k : Fin k0_t1_loop.trips, k0_off34 k = ![16 * k.val + 15] := by decide +kernel
/-- A column read from the table. -/
theorem col_read (c : Dev nD) (xt : TbBuf (F := F) c tbM) (hcols : ∀ n, (xt n).toNat < 64) (n : Fin 1024) {off : Fin 1 → Nat} (hoff : off = ![n.val])
    (inb : ∀ a, off a + S1.size a ≤ S1024.size a) (x : S1.Idx) :
    (View.readAt (Elt F) tbM.view (Rect.unit (s := S1024) off S1.size inb).toLoadRect xt x : BitVec 32).toNat = (colOf c xt n).val := by
  subst hoff
  have e : (View.readAt (Elt F) tbM.view (Rect.unit (s := S1024) ![n.val] S1.size inb).toLoadRect xt x : BitVec 32) = xt (ix1 n) := by
    refine congrArg xt (funext fun a => ?_)
    match a with
    | ⟨0, _⟩ =>
      apply Fin.ext
      have h0 : (x 0).val < 1 := (x 0).isLt
      show n.val + 1 * (x 0).val = n.val
      omega
  rw [e]
  exact (Nat.mod_eq_of_lt (hcols _)).symm

/-- A gathered block of the first layer. -/
theorem block_read (arg10 : Memref sig .tc .vmem S4096x1024 .bf16) (harg10 : arg10.IsWhole) (d10 : Vec F S4096x1024 .bf16) (v : BitVec 32) (q : Fin 64)
    (hv : v.toNat = q.val) (inb : ∀ a, k0_off5 v a + S64x1024.size a ≤ S4096x1024.size a) :
    View.readAt (Elt F) arg10.view (Rect.unit (s := S4096x1024) (k0_off5 v) S64x1024.size inb).toLoadRect (harg10.unread d10)
      = fun z : S64x1024.Idx => d10 (ix2 ⟨64 * q.val + (z 0).val, by have : (z 0).val < 64 := (z 0).isLt; omega⟩ (z 1)) := by
  funext z
  refine Reads.readAt_box harg10 d10 inb z _ fun a => ?_
  have e0 : k0_off5 v 0 = 64 * v.toNat := congrFun (block_off v (by omega)) 0
  have e1 : k0_off5 v 1 = 0 := congrFun (block_off v (by omega)) 1
  match a with
  | ⟨0, _⟩ =>
    show 64 * q.val + (z 0).val = k0_off5 v 0 + (z 0).val
    rw [e0, hv]
  | ⟨1, _⟩ =>
    show (z 1).val = k0_off5 v 1 + (z 1).val
    rw [e1]; exact (Nat.zero_add _).symm

section Trip
variable (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S512x1 .f32) (harg4 : arg4.IsWhole) (arg5 : Memref sig .tc .vmem S128x64x64 .f32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S4096x1024 .bf16) (harg10 : arg10.IsWhole) (arg11 : Memref sig .tc .vmem S4096x1024 .bf16) (harg11 : arg11.IsWhole) (arg12 : Memref sig .tc .vmem S64x64x1024 .bf16) (harg12 : arg12.IsWhole) (k0_h2 : k0_cond2 i = 1#1)
  (xt : TbBuf (F := F) c tbM) (hcols : ∀ n, (xt n).toNat < 64)
  (x6 : Vec F S4096x1 .f32) (d10 : Vec F S4096x1024 .bf16) (d12 : Vec F S64x64x1024 .bf16)

/-- What the row loop holds before trip `k`: the table, the biases, the first layer and the slabs as they were; of the output the row
    blocks before `k`. -/
def rowInv (k : Nat) : sProp 𝕄 :=
  iprop(tbPt c tbM xt ∗ (arg6.view.loc (c : Thread nD τ) ↦[arg6.view.set]{fullShare} harg6.unread x6)
    ∗ (arg10.view.loc (c : Thread nD τ) ↦[arg10.view.set]{fullShare} harg10.unread d10)
    ∗ (arg12.view.loc (c : Thread nD τ) ↦[arg12.view.set]{fullShare} harg12.unread d12)
    ∗ ∃ f, ⌜∀ y : S4096x1024.Idx, (y 0).val < 64 * k → View.read (Elt F) arg11.view f y = rowsVal (colOf c xt) d12 d10 x6 y⌝
      ∗ (arg11.view.loc (c : Thread nD τ) ↦[arg11.view.set]{fullShare} f))

set_option maxHeartbeats 1000000 in
set_option warn.classDefReducibility false in
/-- One trip of the row loop stores its row block and keeps the others. -/
@[sl_loop] def rowLoop : Gen.LoopInvTy_k0_t1 (F := F) Unit ℕ (UR sig nD τ) ℕ Variants.none c none Set.univ i tbM htbM arg2 harg2 arg3 harg3 arg4 harg4 arg5 harg5 arg6 harg6 arg7 harg7 arg8 harg8 arg9 harg9 arg10 harg10 arg11 harg11 arg12 harg12 k0_h2 where
  inv := fun k _ => rowInv c arg6 harg6 arg10 harg10 arg11 arg12 harg12 xt x6 d10 d12 k
  step := fun k _ => by
    unfold rowInv k0_t1_body
    iintro ⟨HT, H6, H10, H12, %f11, %hf, H11⟩
    sl_exec (disch := first | exact chk1 i _ (hcols _) | exact chk2 i _ (hcols _) | exact chk3 i _ (hcols _) | exact chk4 i _ (hcols _) | exact chk5 i _ (hcols _) | exact chk6 i _ (hcols _) | exact chk7 i _ (hcols _) | exact chk8 i _ (hcols _) | exact chk9 i _ (hcols _) | exact chk10 i _ (hcols _) | exact chk11 i _ (hcols _) | exact chk12 i _ (hcols _) | exact chk13 i _ (hcols _) | exact chk14 i _ (hcols _) | exact chk15 i _ (hcols _) | exact chk16 i _ (hcols _))
    sl_step
    isplitl [HT]; · iexact HT
    isplitl [H6]; · iexact H6
    isplitl [H10]; · iexact H10
    isplitl [H12]; · iexact H12
    iexists _; isplitr [H11]; rotate_left
    · iexact H11
    ipureintro
    intro y hy
    have hk : k.val < 64 := k.isLt
    refine (Reads.band_apply (R := 64) (W := 1024) (N := 4096) arg11.view _ (64 * k.val) _ (off37_eq k) _ _ y).trans ?_
    split_ifs with h
    · have hdiv : (⟨(y 0).val / 64, by omega⟩ : Fin 64) = ⟨k.val, hk⟩ := Fin.ext (by show (y 0).val / 64 = k.val; omega)
      have hmod : (⟨(y 0).val - 64 * k.val, by omega⟩ : Fin 64) = ⟨(y 0).val % 64, by omega⟩ := Fin.ext (by show (y 0).val - 64 * k.val = (y 0).val % 64; omega)
      unfold rowsVal rowVal
      rw [hmod]
      refine Eq.trans ?_ (congrArg (fun j : Fin 64 => k0_pay2 (fun z => d12 (ix3 j (z 0) (z 1)))
        (fun z => d10 (ix2 ⟨64 * (colOf c xt ⟨16 * j.val + (z 0).val / 64, by have : (z 0).val < 1024 := (z 0).isLt; omega⟩).val + (z 0).val % 64, by omega⟩ (z 1)))
        (fun z => x6 (ix2 ⟨64 * j.val + (z 0).val, by have : (z 0).val < 64 := (z 0).isLt; omega⟩ 0)) (ix2 ⟨(y 0).val % 64, by omega⟩ (y 1))) hdiv).symm
      refine congrFun (congr (congr (congrArg k0_pay2 ?_) ?_) ?_) _
      · funext z
        refine (congrArg _ (eq_ix2 z)).trans ?_
        refine (ValueIdx.shapeCast_1ab_ab_apply _ _ (z 0) (z 1)).trans ?_
        refine Reads.readAt_box harg12 d12 _ (ix3 0 (z 0) (z 1)) _ fun a => ?_
        have e0 : k0_off3 k 0 = k.val := congrFun (off3_eq k) 0
        have e1 : k0_off3 k 1 = 0 := congrFun (off3_eq k) 1
        have e2 : k0_off3 k 2 = 0 := congrFun (off3_eq k) 2
        match a with
        | ⟨0, _⟩ =>
          show k.val = k0_off3 k 0 + 0
          rw [e0]; rfl
        | ⟨1, _⟩ =>
          show (z 0).val = k0_off3 k 1 + (z 0).val
          rw [e1]; exact (Nat.zero_add _).symm
        | ⟨2, _⟩ =>
          show (z 1).val = k0_off3 k 2 + (z 1).val
          rw [e2]; exact (Nat.zero_add _).symm
      · funext z
        have hz : (z 0).val < 1024 := (z 0).isLt
        refine (Reads.rows_apply_of (fun n : Fin 16 => fun z : S64x1024.Idx => d10 (ix2 ⟨64 * (colOf c xt ⟨16 * k.val + n.val, by omega⟩).val + (z 0).val, by have : (z 0).val < 64 := (z 0).isLt; omega⟩ (z 1))) _
          (block_read arg10 harg10 d10 _ _ (col_read c xt hcols ⟨16 * k.val + 0, by omega⟩ (off4_eq k) _ _) _)
          (block_read arg10 harg10 d10 _ _ (col_read c xt hcols ⟨16 * k.val + 1, by omega⟩ (off6_eq k) _ _) _)
          (block_read arg10 harg10 d10 _ _ (col_read c xt hcols ⟨16 * k.val + 2, by omega⟩ (off8_eq k) _ _) _)
          (block_read arg10 harg10 d10 _ _ (col_read c xt hcols ⟨16 * k.val + 3, by omega⟩ (off10_eq k) _ _) _)
          (block_read arg10 harg10 d10 _ _ (col_read c xt hcols ⟨16 * k.val + 4, by omega⟩ (off12_eq k) _ _) _)
          (block_read arg10 harg10 d10 _ _ (col_read c xt hcols ⟨16 * k.val + 5, by omega⟩ (off14_eq k) _ _) _)
          (block_read arg10 harg10 d10 _ _ (col_read c xt hcols ⟨16 * k.val + 6, by omega⟩ (off16_eq k) _ _) _)
          (block_read arg10 harg10 d10 _ _ (col_read c xt hcols ⟨16 * k.val + 7, by omega⟩ (off18_eq k) _ _) _)
          (block_read arg10 harg10 d10 _ _ (col_read c xt hcols ⟨16 * k.val + 8, by omega⟩ (off20_eq k) _ _) _)
          (block_read arg10 harg10 d10 _ _ (col_read c xt hcols ⟨16 * k.val + 9, by omega⟩ (off22_eq k) _ _) _)
          (block_read arg10 harg10 d10 _ _ (col_read c xt hcols ⟨16 * k.val + 10, by omega⟩ (off24_eq k) _ _) _)
          (block_read arg10 harg10 d10 _ _ (col_read c xt hcols ⟨16 * k.val + 11, by omega⟩ (off26_eq k) _ _) _)
          (block_read arg10 harg10 d10 _ _ (col_read c xt hcols ⟨16 * k.val + 12, by omega⟩ (off28_eq k) _ _) _)
          (block_read arg10 harg10 d10 _ _ (col_read c xt hcols ⟨16 * k.val + 13, by omega⟩ (off30_eq k) _ _) _)
          (block_read arg10 harg10 d10 _ _ (col_read c xt hcols ⟨16 * k.val + 14, by omega⟩ (off32_eq k) _ _) _)
          (block_read arg10 harg10 d10 _ _ (col_read c xt hcols ⟨16 * k.val + 15, by omega⟩ (off34_eq k) _ _) _) z).trans ?_
        rfl
      · funext z
        refine Reads.readAt_box harg6 x6 _ z _ fun a => ?_
        have e0 : k0_off36 k 0 = 64 * k.val := congrFun (off36_eq k) 0
        have e1 : k0_off36 k 1 = 0 := congrFun (off36_eq k) 1
        match a with
        | ⟨0, _⟩ =>
          show 64 * k.val + (z 0).val = k0_off36 k 0 + (z 0).val
          rw [e0]
        | ⟨1, _⟩ =>
          have : (z 1).val < 1 := (z 1).isLt
          show 0 = k0_off36 k 1 + (z 1).val
          rw [e1]
          omega
    · exact hf y (by omega)

/-- The invariant written out. -/
theorem rowInv_eq (k : Nat) : rowInv c arg6 harg6 arg10 harg10 arg11 arg12 harg12 xt x6 d10 d12 k
    = iprop(tbPt c tbM xt ∗ (arg6.view.loc (c : Thread nD τ) ↦[arg6.view.set]{fullShare} harg6.unread x6)
      ∗ (arg10.view.loc (c : Thread nD τ) ↦[arg10.view.set]{fullShare} harg10.unread d10)
      ∗ (arg12.view.loc (c : Thread nD τ) ↦[arg12.view.set]{fullShare} harg12.unread d12)
      ∗ ∃ f, ⌜∀ y : S4096x1024.Idx, (y 0).val < 64 * k → View.read (Elt F) arg11.view f y = rowsVal (colOf c xt) d12 d10 x6 y⌝
        ∗ (arg11.view.loc (c : Thread nD τ) ↦[arg11.view.set]{fullShare} f)) := rfl

/-- The loop's invariant is what was stated. -/
theorem rowLoop_inv (k : Nat) (u : Unit) : (rowLoop c i arg2 harg2 arg3 harg3 arg4 harg4 arg5 harg5 arg6 harg6 arg7 harg7 arg8 harg8 arg9 harg9 arg10 harg10 arg11 harg11 arg12 harg12 k0_h2 xt hcols x6 d10 d12).inv k u
    = rowInv c arg6 harg6 arg10 harg10 arg11 arg12 harg12 xt x6 d10 d12 k := rfl

/-- What the loop's invariant hands back. -/
theorem rowLoop_out (k : Nat) (u : Unit) : (rowLoop c i arg2 harg2 arg3 harg3 arg4 harg4 arg5 harg5 arg6 harg6 arg7 harg7 arg8 harg8 arg9 harg9 arg10 harg10 arg11 harg11 arg12 harg12 k0_h2 xt hcols x6 d10 d12).inv k u
    ⊢ iprop(tbPt c tbM xt ∗ (arg6.view.loc (c : Thread nD τ) ↦[arg6.view.set]{fullShare} harg6.unread x6)
      ∗ (arg10.view.loc (c : Thread nD τ) ↦[arg10.view.set]{fullShare} harg10.unread d10)
      ∗ (arg12.view.loc (c : Thread nD τ) ↦[arg12.view.set]{fullShare} harg12.unread d12)
      ∗ ∃ f, ⌜∀ y : S4096x1024.Idx, (y 0).val < 64 * k → View.read (Elt F) arg11.view f y = rowsVal (colOf c xt) d12 d10 x6 y⌝
        ∗ (arg11.view.loc (c : Thread nD τ) ↦[arg11.view.set]{fullShare} f)) := by
  rw [rowLoop_inv, rowInv_eq]

end Trip

set_option maxHeartbeats 1000000 in
/-- The second branch: every row block of the block-sparse layer is computed from the table, the slabs, the first layer and the biases. -/
theorem run_rows (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S512x1 .f32) (harg4 : arg4.IsWhole) (arg5 : Memref sig .tc .vmem S128x64x64 .f32) (harg5 : arg5.IsWhole) (arg6 : Memref sig .tc .vmem S4096x1 .f32) (harg6 : arg6.IsWhole) (arg7 : Memref sig .tc .vmem S256x4096 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S4096x1024 .bf16) (harg10 : arg10.IsWhole) (arg11 : Memref sig .tc .vmem S4096x1024 .bf16) (harg11 : arg11.IsWhole) (arg12 : Memref sig .tc .vmem S64x64x1024 .bf16) (harg12 : arg12.IsWhole)
    (hc1 : ¬k0_cond1 i = 1#1) (hc2 : k0_cond2 i = 1#1) (hc3 : ¬k0_cond3 i = 1#1)
    (xt : TbBuf (F := F) c tbM) (hcols : ∀ n, (xt n).toNat < 64)
    (x6 : Vec F S4096x1 .f32) (d10 : Vec F S4096x1024 .bf16) (d12 : Vec F S64x64x1024 .bf16) :
      ∀ (K : PUnit → sProp 𝕄),
        iprop(tbPt c tbM xt ∗ owns (c : Thread nD τ) arg6 fullShare x6 ∗ owns (c : Thread nD τ) arg10 fullShare d10
            ∗ (∃ d, owns (c : Thread nD τ) arg11 fullShare d) ∗ owns (c : Thread nD τ) arg12 fullShare d12
            ∗ (iprop(tbPt c tbM xt ∗ owns (c : Thread nD τ) arg6 fullShare x6 ∗ owns (c : Thread nD τ) arg10 fullShare d10
              ∗ owns (c : Thread nD τ) arg11 fullShare (rowsVal (colOf c xt) d12 d10 x6) ∗ owns (c : Thread nD τ) arg12 fullShare d12) -∗ K ⟨⟩))
          ⊢ wp frame (wpE (defs₀ (F := F)) Variants.none c none) Set.univ (cc0__mlp_kernel i tbM htbM arg2 harg2 arg3 harg3 arg4 harg4 arg5 harg5 arg6 harg6 arg7 harg7 arg8 harg8 arg9 harg9 arg10 harg10 arg11 harg11 arg12 harg12) K := by
    intro K
    simp only [cc0__mlp_kernel_eq_skeleton]; unfold cc0__mlp_kernel_skel
    unfold owns
    iintro ⟨HT, ⟨%f6, %hf6, H6⟩, ⟨%f10, %hf10, H10⟩, ⟨%d11, %f11, -, H11⟩, ⟨%f12, %hf12, H12⟩, Hk⟩
    obtain rfl := harg6.eq_unread hf6
    obtain rfl := harg10.eq_unread hf10
    obtain rfl := harg12.eq_unread hf12
    ihave HI : rowInv c arg6 harg6 arg10 harg10 arg11 arg12 harg12 xt x6 d10 d12 0 $$ [HT H6 H10 H11 H12]
    · unfold rowInv
      isplitl [HT]; · iexact HT
      isplitl [H6]; · iexact H6
      isplitl [H10]; · iexact H10
      isplitl [H12]; · iexact H12
      iexists _; isplitr [H11]; rotate_left
      · iexact H11
      ipureintro
      intro y hy
      omega
    sl_exec (disch := first | sl_exact hc1 | sl_exact hc2 | sl_exact hc3)
    iapply (exec_loop Idealize.ShloMosaic.frame (wpE (defs₀ (F := F)) Variants.none (c : Thread nD τ) none) Set.univ _ _ _ _ _ _
      (rowLoop c i arg2 harg2 arg3 harg3 arg4 harg4 arg5 harg5 arg6 harg6 arg7 harg7 arg8 harg8 arg9 harg9 arg10 harg10 arg11 harg11 arg12 harg12 hc2 xt hcols x6 d10 d12)) $$ [HI]
    · rewrite [rowLoop_inv]; iexact HI
    iintro %_ HI
    ihave HJ := (rowLoop_out c i arg2 harg2 arg3 harg3 arg4 harg4 arg5 harg5 arg6 harg6 arg7 harg7 arg8 harg8 arg9 harg9 arg10 harg10 arg11 harg11 arg12 harg12 hc2 xt hcols x6 d10 d12 _ _) $$ HI
    icases HJ with ⟨HT, H6, H10, H12, %f, %hf, H11⟩
    sl_exec (disch := first | sl_exact hc1 | sl_exact hc2 | sl_exact hc3)
    sl_step
    iapply Hk
    isplitl [HT]; · iexact HT
    isplitl [H6]
    · iexists _; isplitr; · ipureintro; exact harg6.read_unread _
      iexact H6
    isplitl [H10]
    · iexists _; isplitr; · ipureintro; exact harg10.read_unread _
      iexact H10
    isplitl [H11]
    · iexists _; isplitr [H11]; rotate_left
      · iexact H11
      ipureintro
      funext y
      exact hf y (Nat.lt_of_lt_of_le (y 0).isLt (by decide +kernel))
    · iexists _; isplitr; · ipureintro; exact harg12.read_unread _
      iexact H12

end Cert.KernelIdeal.Hand

end
-- ==== Proof.KernelIdealFrame.lean ====
/- The kernel's run: what the scratch buffers hold point by point, the body at every point, and the launch. -/
module

public import proofs.«01_k».proof.Proof.Gen.KernelIdeal.Launch
public import proofs.«01_k».proof.Proof.KernelIdealSetup
public import proofs.«01_k».proof.Proof.KernelIdealFirst
public import proofs.«01_k».proof.Proof.KernelIdealLast
public import proofs.«01_k».proof.Proof.KernelIdealRows
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import Idealize.ShloMosaic.Lib.ValueLayout
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel computes -/

/-- The grid has thirteen points. -/
theorem N_13 : (cfgM m).N = 13 := N_0
/-- The point of a number below thirteen. -/
def pt (k : Nat) (hk : k < 13) : Fin (cfgM m).N := ⟨k, by rw [N_13]; exact hk⟩

/-- The first layer's output: row tile `k` is computed at point `k`. -/
def H1 (c : Dev nD) : Vec F S4096x1024 .bf16 := fun y =>
  k0_pay4 (iblk m c 0 (pt m ((y 0).val / 512) (by have : (y 0).val < 4096 := (y 0).isLt; omega)))
    (iblk m c 1 (pt m ((y 0).val / 512) (by have : (y 0).val < 4096 := (y 0).isLt; omega)))
    (iblk m c 2 (pt m ((y 0).val / 512) (by have : (y 0).val < 4096 := (y 0).isLt; omega))) (ix2 ⟨(y 0).val % 512, by omega⟩ (y 1))

/-- The unpacked values: slab `k` holds block row `k`, its sixteen blocks side by side. -/
def VT (c : Dev nD) : Vec F S64x64x1024 .bf16 := fun y =>
  truncf .bf16 (iblk m c 3 (pt m ((y 0).val / 8) (by have : (y 0).val < 64 := (y 0).isLt; omega)) : Vec F S128x64x64 .f32) bitsLt_bf16_f32
    (ix3 ⟨16 * ((y 0).val % 8) + (y 2).val / 64, by have : (y 2).val < 1024 := (y 2).isLt; omega⟩ (y 1) ⟨(y 2).val % 64, by omega⟩)

/-- The block-sparse layer's output. -/
def H2 (c : Dev nD) : Vec F S4096x1024 .bf16 := rowsVal (colOf c (tbl m 0)) (VT m c) (H1 m c) (iblk m c 4 (pt m 8 (by omega)))

/-- Storing a row tile extends the rows that hold the first layer's output. -/
theorem fillH_H1 (c : Dev nD) (t : Fin (cfgM m).N) (ht : t.val < 8) (d : Vec F S4096x1024 .bf16)
    (hd : ∀ y : S4096x1024.Idx, (y 0).val < 512 * t.val → d y = H1 m c y) (y : S4096x1024.Idx) (hy : (y 0).val < 512 * (t.val + 1)) :
    fillH t.val (iblk m c 0 t) (iblk m c 1 t) (iblk m c 2 t) d y = H1 m c y := by
  unfold fillH
  split
  · rename_i h
    obtain ⟨k, hk⟩ := t
    have e : (y 0).val / 512 = k := by dsimp only at h; omega
    unfold H1 pt
    subst e
    congr 1
    funext a
    match a with
    | ⟨0, _⟩ => exact Fin.ext (show (y 0).val - 512 * ((y 0).val / 512) = (y 0).val % 512 by omega)
    | ⟨1, _⟩ => rfl
  · exact hd y (by omega)

/-- Storing eight slabs extends the slabs that hold the unpacked values. -/
theorem fillV_VT (c : Dev nD) (t : Fin (cfgM m).N) (ht : t.val < 8) (d : Vec F S64x64x1024 .bf16)
    (hd : ∀ y : S64x64x1024.Idx, (y 0).val < 8 * t.val → d y = VT m c y) (y : S64x64x1024.Idx) (hy : (y 0).val < 8 * (t.val + 1)) :
    fillV t.val (iblk m c 3 t) d y = VT m c y := by
  unfold fillV
  split
  · rename_i h
    obtain ⟨k, hk⟩ := t
    have e : (y 0).val / 8 = k := by dsimp only at h; omega
    unfold VT pt
    subst e
    congr 1
    funext a
    match a with
    | ⟨0, _⟩ => exact Fin.ext (show 16 * ((y 0).val - 8 * ((y 0).val / 8)) + (y 2).val / 64 = 16 * ((y 0).val % 8) + (y 2).val / 64 by omega)
    | ⟨1, _⟩ => rfl
    | ⟨2, _⟩ => rfl
  · exact hd y (by omega)

/-- What is known of the three scratch buffers before point `k`: the rows and slabs stored so far, and from point 9 on the
    block-sparse layer's output. -/
structure Known (c : Dev nD) (k : Nat) (d10 d11 : Vec F S4096x1024 .bf16) (d12 : Vec F S64x64x1024 .bf16) : Prop where
  h1 : ∀ y : S4096x1024.Idx, (y 0).val < 512 * min k 8 → d10 y = H1 m c y
  vt : ∀ y : S64x64x1024.Idx, (y 0).val < 8 * min k 8 → d12 y = VT m c y
  h2 : 8 < k → d11 = H2 m c

/-- Nothing is known at the start. -/
theorem Known.start (c : Dev nD) (d10 d11 : Vec F S4096x1024 .bf16) (d12 : Vec F S64x64x1024 .bf16) : Known m c 0 d10 d11 d12 :=
  ⟨fun y hy => absurd hy (by omega), fun y hy => absurd hy (by omega), fun h => absurd h (by omega)⟩

/-- The first branch carries it on. -/
theorem Known.first {m : (ℓ : Loc nD τ sig) → Buf (Elt F) ℓ} {c : Dev nD} {t : Fin (cfgM m).N} {d10 d11 d12} (h : Known m c t.val d10 d11 d12) (ht : t.val < 8) :
    Known m c (t.val + 1) (fillH t.val (iblk m c 0 t) (iblk m c 1 t) (iblk m c 2 t) d10) d11 (fillV t.val (iblk m c 3 t) d12) where
  h1 y hy := fillH_H1 m c t ht d10 (fun y hy => h.h1 y (by omega)) y (by omega)
  vt y hy := fillV_VT m c t ht d12 (fun y hy => h.vt y (by omega)) y (by omega)
  h2 h8 := absurd h8 (by omega)

/-- At point 8 every row and every slab is stored. -/
theorem Known.full {m : (ℓ : Loc nD τ sig) → Buf (Elt F) ℓ} {c : Dev nD} {k : Nat} {d10 d11 d12} (h : Known m c k d10 d11 d12) (hk : 8 ≤ k) : d10 = H1 m c ∧ d12 = VT m c :=
  ⟨funext fun y => h.h1 y (by have : (y 0).val < 4096 := (y 0).isLt; omega), funext fun y => h.vt y (by have : (y 0).val < 64 := (y 0).isLt; omega)⟩

/-- The second branch carries it on. -/
theorem Known.rows {m : (ℓ : Loc nD τ sig) → Buf (Elt F) ℓ} {c : Dev nD} {t : Fin (cfgM m).N} {d10 d11 d12} (h : Known m c t.val d10 d11 d12) (ht : t.val = 8) :
    Known m c (t.val + 1) d10 (rowsVal (colOf c (tbl m 0)) d12 d10 (iblk m c 4 t)) d12 where
  h1 y hy := h.h1 y (by omega)
  vt y hy := h.vt y (by omega)
  h2 _ := by
    obtain ⟨rfl, rfl⟩ := h.full (by omega)
    obtain ⟨k, hk⟩ := t
    subst ht
    rfl

/-- The third branch leaves the scratch as it is. -/
theorem Known.last {m : (ℓ : Loc nD τ sig) → Buf (Elt F) ℓ} {c : Dev nD} {t : Fin (cfgM m).N} {d10 d11 d12} (h : Known m c t.val d10 d11 d12) (ht : 8 < t.val) :
    Known m c (t.val + 1) d10 d11 d12 :=
  ⟨fun y hy => h.h1 y (by omega), fun y hy => h.vt y (by omega), fun _ => h.h2 ht⟩

/-! ## The pipeline's data -/

/-- What is held beside the windows before point `k`. -/
def held (c : Dev nD) (k : Nat) : sProp 𝕄 :=
  iprop((∃ d10 d11 d12, ⌜Known m c k d10 d11 d12⌝ ∗ owns (c : Thread nD τ) scH1 fullShare d10 ∗ owns (c : Thread nD τ) scH2 fullShare d11 ∗ owns (c : Thread nD τ) scV fullShare d12)
    ∗ (∃ r, prngReg c r) ∗ tbPt c tbM (tbl m 0))

/-- The pipeline's data on core `c`: the arrays as the region finds them; each input's buffer at its block and the output's at its
    column tile of the last layer; the scratch as `held` says; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (H2 m c) (iblk m c 5 t) (iblk m c 6 t)
  Φ t := held m c t.val
  q _ := fullShare
  owed _ := 0

/-- The data's arrays are what the region finds. -/
theorem A_eq (c : Dev nD) (w : Fin (cfgM m).W) : (dats m 0 c).A w = V m c (Pipeline.arrRef spec0 w) := by
  dsimp only [dats]

/-- What the body leaves in window 0. -/
theorem after_0 (c : Dev nD) (t : Fin (cfgM m).N) : (dats m 0 c).after 0 t = iblk m c 0 t := by dsimp only [dats]; try rfl
/-- What the body finds in window 0. -/
theorem before_0 (c : Dev nD) (t : Fin (cfgM m).N) (d) : (dats m 0 c).before 0 t d = iblk m c 0 t :=
  before_0_of m (dats m 0 c) (A_eq m c 0) (after_0 m c) t d
/-- Window 0 is left at its block. -/
theorem leaves_0 (c : Dev nD) (t : Fin (cfgM m).N) :
    (dats m 0 c).leavesExact 0 t = owns (c : Thread nD τ) (ms_0 m t) fullShare (iblk m c 0 t) := by
  unfold Dat.leavesExact; rw [live_0 m t]; dsimp only; rw [after_0]; try rfl
/-- What the body leaves in window 1. -/
theorem after_1 (c : Dev nD) (t : Fin (cfgM m).N) : (dats m 0 c).after 1 t = iblk m c 1 t := by dsimp only [dats]; try rfl
/-- What the body finds in window 1. -/
theorem before_1 (c : Dev nD) (t : Fin (cfgM m).N) (d) : (dats m 0 c).before 1 t d = iblk m c 1 t :=
  before_1_of m (dats m 0 c) (A_eq m c 1) (after_1 m c) t d
/-- Window 1 is left at its block. -/
theorem leaves_1 (c : Dev nD) (t : Fin (cfgM m).N) :
    (dats m 0 c).leavesExact 1 t = owns (c : Thread nD τ) (ms_1 m t) fullShare (iblk m c 1 t) := by
  unfold Dat.leavesExact; rw [live_1 m t]; dsimp only; rw [after_1]; try rfl
/-- What the body leaves in window 2. -/
theorem after_2 (c : Dev nD) (t : Fin (cfgM m).N) : (dats m 0 c).after 2 t = iblk m c 2 t := by dsimp only [dats]; try rfl
/-- What the body finds in window 2. -/
theorem before_2 (c : Dev nD) (t : Fin (cfgM m).N) (d) : (dats m 0 c).before 2 t d = iblk m c 2 t :=
  before_2_of m (dats m 0 c) (A_eq m c 2) (after_2 m c) t d
/-- Window 2 is left at its block. -/
theorem leaves_2 (c : Dev nD) (t : Fin (cfgM m).N) :
    (dats m 0 c).leavesExact 2 t = owns (c : Thread nD τ) (ms_2 m t) fullShare (iblk m c 2 t) := by
  unfold Dat.leavesExact; rw [live_2 m t]; dsimp only; rw [after_2]; try rfl
/-- What the body leaves in window 3. -/
theorem after_3 (c : Dev nD) (t : Fin (cfgM m).N) : (dats m 0 c).after 3 t = iblk m c 3 t := by dsimp only [dats]; try rfl
/-- What the body finds in window 3. -/
theorem before_3 (c : Dev nD) (t : Fin (cfgM m).N) (d) : (dats m 0 c).before 3 t d = iblk m c 3 t :=
  before_3_of m (dats m 0 c) (A_eq m c 3) (after_3 m c) t d
/-- Window 3 is left at its block. -/
theorem leaves_3 (c : Dev nD) (t : Fin (cfgM m).N) :
    (dats m 0 c).leavesExact 3 t = owns (c : Thread nD τ) (ms_3 m t) fullShare (iblk m c 3 t) := by
  unfold Dat.leavesExact; rw [live_3 m t]; dsimp only; rw [after_3]; try rfl
/-- What the body leaves in window 4. -/
theorem after_4 (c : Dev nD) (t : Fin (cfgM m).N) : (dats m 0 c).after 4 t = iblk m c 4 t := by dsimp only [dats]; try rfl
/-- What the body finds in window 4. -/
theorem before_4 (c : Dev nD) (t : Fin (cfgM m).N) (d) : (dats m 0 c).before 4 t d = iblk m c 4 t :=
  before_4_of m (dats m 0 c) (A_eq m c 4) (after_4 m c) t d
/-- Window 4 is left at its block. -/
theorem leaves_4 (c : Dev nD) (t : Fin (cfgM m).N) :
    (dats m 0 c).leavesExact 4 t = owns (c : Thread nD τ) (ms_4 m t) fullShare (iblk m c 4 t) := by
  unfold Dat.leavesExact; rw [live_4 m t]; dsimp only; rw [after_4]; try rfl
/-- What the body leaves in window 5. -/
theorem after_5 (c : Dev nD) (t : Fin (cfgM m).N) : (dats m 0 c).after 5 t = iblk m c 5 t := by dsimp only [dats]; try rfl
/-- What the body finds in window 5. -/
theorem before_5 (c : Dev nD) (t : Fin (cfgM m).N) (d) : (dats m 0 c).before 5 t d = iblk m c 5 t :=
  before_5_of m (dats m 0 c) (A_eq m c 5) (after_5 m c) t d
/-- Window 5 is left at its block. -/
theorem leaves_5 (c : Dev nD) (t : Fin (cfgM m).N) :
    (dats m 0 c).leavesExact 5 t = owns (c : Thread nD τ) (ms_5 m t) fullShare (iblk m c 5 t) := by
  unfold Dat.leavesExact; rw [live_5 m t]; dsimp only; rw [after_5]; try rfl
/-- What the body leaves in window 6. -/
theorem after_6 (c : Dev nD) (t : Fin (cfgM m).N) : (dats m 0 c).after 6 t = iblk m c 6 t := by dsimp only [dats]; try rfl
/-- What the body finds in window 6. -/
theorem before_6 (c : Dev nD) (t : Fin (cfgM m).N) (d) : (dats m 0 c).before 6 t d = iblk m c 6 t :=
  before_6_of m (dats m 0 c) (A_eq m c 6) (after_6 m c) t d
/-- Window 6 is left at its block. -/
theorem leaves_6 (c : Dev nD) (t : Fin (cfgM m).N) :
    (dats m 0 c).leavesExact 6 t = owns (c : Thread nD τ) (ms_6 m t) fullShare (iblk m c 6 t) := by
  unfold Dat.leavesExact; rw [live_6 m t]; dsimp only; rw [after_6]; try rfl
/-- What the body leaves in the output window. -/
theorem after_7 (c : Dev nD) (t : Fin (cfgM m).N) : (dats m 0 c).after 7 t = k0_pay3 (H2 m c) (iblk m c 5 t) (iblk m c 6 t) := by dsimp only [dats]; try rfl
/-- The output's buffer is written back at none of the first nine points, -/
theorem flush_early : ∀ t : Fin (cfgM m).N, t.val ≤ 8 → ((cfgM m).win 7).flush t = false :=
  (by decide +kernel : ∀ t : Fin grid0.N, t.val ≤ 8 → Window.flushOf grid0 true cc0_transform_7 t = false)
/-- and at each of the last four. -/
theorem flush_late : ∀ t : Fin (cfgM m).N, 8 < t.val → ((cfgM m).win 7).flush t = true :=
  (by decide +kernel : ∀ t : Fin grid0.N, 8 < t.val → Window.flushOf grid0 true cc0_transform_7 t = true)
/-- The output's buffer is left as it was found at the first nine points, -/
theorem leaves_7_early (c : Dev nD) (t : Fin (cfgM m).N) (ht : t.val ≤ 8) :
    (dats m 0 c).leavesExact 7 t = iprop(∃ d, owns (c : Thread nD τ) (ms_7 m t) fullShare ((dats m 0 c).before 7 t d)) :=
  (dats m 0 c).leavesExact_idle 7 t (idle_7 m t ht) (flush_early m t ht)
/-- and at its tile at the last four. -/
theorem leaves_7_late (c : Dev nD) (t : Fin (cfgM m).N) (ht : 8 < t.val) :
    (dats m 0 c).leavesExact 7 t = owns (c : Thread nD τ) (ms_7 m t) fullShare (k0_pay3 (H2 m c) (iblk m c 5 t) (iblk m c 6 t)) := by
  unfold Dat.leavesExact; rw [live_7 m t ht]; dsimp only; rw [after_7]; try rfl

/-! ## The body at a point -/

/-- What the body is called with, -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ d, owns (c : Thread nD τ) (ms_7 m t) fullShare ((dats m 0 c).before 7 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1200000 in
/-- The body at a point of the first branch. -/
theorem sound_first (c : Dev nD) (t : Fin (cfgM m).N) (ht : t.val < 8) :
    bodyPre m c t ⊢ wp frame (wpE (defs₀ (F := F)) Variants.none c none) Set.univ (bodyAt m t) (fun _ => bodyPost m c t) := by
    unfold bodyPre bodyPost bodyAt
    simp only [before_0, before_1, before_2, before_3, before_4, before_5, before_6]
    rw [show (dats m 0 c).Φ t.succ = held m c (t.val + 1) from rfl, show (dats m 0 c).Φ t.castSucc = held m c t.val from rfl,
      show (dats m 0 c).owesAt () t.succ = (dats m 0 c).owesAt () t.castSucc from rfl]
    unfold held
    rw [leaves_0, leaves_1, leaves_2, leaves_3, leaves_4, leaves_5, leaves_6, leaves_7_early m c t (by omega)]
    iintro ⟨⟨⟨%d10, %d11, %d12, %hk, S1, S2, SV⟩, Hg, HT⟩, Ho, ⟨%e0, H0⟩, ⟨%e1, H1⟩, ⟨%e2, H2⟩, ⟨%e3, H3⟩, ⟨%e4, H4⟩, ⟨%e5, H5⟩, ⟨%e6, H6⟩, H7⟩
    iapply ((run_first c t _ _ _ _ _ _ _ _ _ _ _ _ _ _ _ _ _ _ _ _ _ _ ((hcond1 t).mpr ht) (fun h => absurd ((hcond2 t).mp h) (by omega)) (fun h => absurd ((hcond3 t).mp h) (by omega)) (iblk m c 0 t) (iblk m c 1 t) (iblk m c 2 t) (iblk m c 3 t) d10 d12) Set.univ _)
    isplitl [H0]; · iexact H0
    isplitl [H1]; · iexact H1
    isplitl [H2]; · iexact H2
    isplitl [H3]; · iexact H3
    isplitl [S1]; · iexact S1
    isplitl [SV]; · iexact SV
    iintro ⟨H0, H1, H2, H3, S1, SV⟩
    isplitl [S1 S2 SV Hg HT]
    · isplitl [S1 S2 SV]
      · iexists _, _, _
        isplitr; · ipureintro; exact hk.first ht
        isplitl [S1]; · iexact S1
        isplitl [S2]; · iexact S2
        iexact SV
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxHeartbeats 1200000 in
/-- The body at a point of the second branch. -/
theorem sound_rows (c : Dev nD) (t : Fin (cfgM m).N) (hcols : ∀ n, (tbl m 0 n : BitVec 32).toNat < 64) (ht : t.val = 8) :
    bodyPre m c t ⊢ wp frame (wpE (defs₀ (F := F)) Variants.none c none) Set.univ (bodyAt m t) (fun _ => bodyPost m c t) := by
    unfold bodyPre bodyPost bodyAt
    simp only [before_0, before_1, before_2, before_3, before_4, before_5, before_6]
    rw [show (dats m 0 c).Φ t.succ = held m c (t.val + 1) from rfl, show (dats m 0 c).Φ t.castSucc = held m c t.val from rfl,
      show (dats m 0 c).owesAt () t.succ = (dats m 0 c).owesAt () t.castSucc from rfl]
    unfold held
    rw [leaves_0, leaves_1, leaves_2, leaves_3, leaves_4, leaves_5, leaves_6, leaves_7_early m c t (by omega)]
    iintro ⟨⟨⟨%d10, %d11, %d12, %hk, S1, S2, SV⟩, Hg, HT⟩, Ho, ⟨%e0, H0⟩, ⟨%e1, H1⟩, ⟨%e2, H2⟩, ⟨%e3, H3⟩, ⟨%e4, H4⟩, ⟨%e5, H5⟩, ⟨%e6, H6⟩, H7⟩
    iapply ((run_rows c (grid0.coords t) _ _ _ _ _ _ _ _ _ _ _ _ _ _ _ _ _ _ _ _ _ _ (fun h => absurd ((hcond1 t).mp h) (by omega)) ((hcond2 t).mpr ht) (fun h => absurd ((hcond3 t).mp h) (by omega)) (tbl m 0) hcols (iblk m c 4 t) d10 d12) _)
    isplitl [HT]; · iexact HT
    isplitl [H4]; · iexact H4
    isplitl [S1]; · iexact S1
    isplitl [S2]; · iexists _; iexact S2
    isplitl [SV]; · iexact SV
    iintro ⟨HT, H4, S1, S2, SV⟩
    isplitl [S1 S2 SV Hg HT]
    · isplitl [S1 S2 SV]
      · iexists _, _, _
        isplitr; · ipureintro; exact hk.rows ht
        isplitl [S1]; · iexact S1
        isplitl [S2]; · iexact S2
        iexact SV
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxHeartbeats 1200000 in
/-- The body at a point of the third branch. -/
theorem sound_last (c : Dev nD) (t : Fin (cfgM m).N) (ht : 8 < t.val) :
    bodyPre m c t ⊢ wp frame (wpE (defs₀ (F := F)) Variants.none c none) Set.univ (bodyAt m t) (fun _ => bodyPost m c t) := by
    unfold bodyPre bodyPost bodyAt
    simp only [before_0, before_1, before_2, before_3, before_4, before_5, before_6]
    rw [show (dats m 0 c).Φ t.succ = held m c (t.val + 1) from rfl, show (dats m 0 c).Φ t.castSucc = held m c t.val from rfl,
      show (dats m 0 c).owesAt () t.succ = (dats m 0 c).owesAt () t.castSucc from rfl]
    unfold held
    rw [leaves_0, leaves_1, leaves_2, leaves_3, leaves_4, leaves_5, leaves_6, leaves_7_late m c t ht]
    iintro ⟨⟨⟨%d10, %d11, %d12, %hk, S1, S2, SV⟩, Hg, HT⟩, Ho, ⟨%e0, H0⟩, ⟨%e1, H1⟩, ⟨%e2, H2⟩, ⟨%e3, H3⟩, ⟨%e4, H4⟩, ⟨%e5, H5⟩, ⟨%e6, H6⟩, H7⟩
    obtain rfl := hk.h2 ht
    iapply ((run_last c (grid0.coords t) _ _ _ _ _ _ _ _ _ _ _ _ _ _ _ _ _ _ _ _ _ _ (fun h => absurd ((hcond1 t).mp h) (by omega)) (fun h => absurd ((hcond2 t).mp h) (by omega)) ((hcond3 t).mpr ht) (iblk m c 5 t) (iblk m c 6 t) (H2 m c)) Set.univ _)
    isplitl [H5]; · iexact H5
    isplitl [H6]; · iexact H6
    isplitl [H7]; · icases H7 with ⟨%d7, H7⟩; iexists _; iexact H7
    isplitl [S2]; · iexact S2
    iintro ⟨H5, H6, H7, S2⟩
    isplitl [S1 S2 SV Hg HT]
    · isplitl [S1 S2 SV]
      · iexists _, _, _
        isplitr; · ipureintro; exact hk.last ht
        isplitl [S1]; · iexact S1
        isplitl [S2]; · iexact S2
        iexact SV
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body at every point, given that the table's words are block columns. -/
theorem body_obligation (hcols : ∀ n, (tbl m 0 n : BitVec 32).toNat < 64) (c : Dev nD) :
    BodyObligation (dats (F := F) m 0 c) (defs₀ (F := F)) Variants.none () Set.univ := fun t => by
  rw [bigSep_W0, bigSep_W0, defs₀_row m]
  refine triple_restated (?_ : bodyPre m c t ⊢ wp frame (wpE (defs₀ (F := F)) Variants.none c none) Set.univ (bodyAt m t) (fun _ => bodyPost m c t)) rfl .rfl fun _ => .rfl
  rcases Nat.lt_trichotomy t.val 8 with ht | ht | ht
  · exact sound_first m c t ht
  · exact sound_rows m c t hcols ht
  · exact sound_last m c t ht

/-! ## The launch -/

/-- What the region hands over is what is held before the first point. -/
theorem held_in (c : Dev nD) : iprop(Pipeline.ΦA spec0 c ∗ Pipeline.ΦT pre0 (tbl m) c) ⊢ (dats m 0 c).Φ 0 := by
  rw [show (dats m 0 c).Φ 0 = held m c 0 from rfl, PhiA_eq, PhiT_eq]
  unfold held
  iintro ⟨⟨⟨⟨%d10, S1⟩, ⟨%d11, S2⟩, ⟨%d12, SV⟩⟩, Hg⟩, HT⟩
  isplitl [S1 S2 SV]
  · iexists d10, d11, d12
    isplitr; · ipureintro; exact Known.start m c d10 d11 d12
    isplitl [S1]; · iexact S1
    isplitl [S2]; · iexact S2
    iexact SV
  isplitl [Hg]; · iexact Hg
  iexact HT

/-- What is held after the last point is what the region takes back. -/
theorem held_out (c : Dev nD) : (dats m 0 c).Φ (Fin.last (cfgM m).N) ⊢ Pipeline.ΦA spec0 c := by
  rw [show (dats m 0 c).Φ (Fin.last (cfgM m).N) = held m c (cfgM m).N from rfl, PhiA_eq]
  unfold held
  iintro ⟨⟨%d10, %d11, %d12, %hk, S1, S2, SV⟩, Hg, HT⟩
  isplitl [S1 S2 SV]
  · isplitl [S1]; · iexists _; iexact S1
    isplitl [S2]; · iexists _; iexact S2
    iexists _; iexact SV
  iexact Hg

set_option backward.isDefEq.respectTransparency.types false in
/-- Every run ends with the arrays as the data say and every semaphore at zero. -/
theorem run_main (hcols : ∀ n, (tbl m 0 n : BitVec 32).toNat < 64) :
    θ_run defs (onTc (τ := τ) (main (F := F))) (s₀ m ρ) (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m hcols c).loose) (hshare := fun c => (dats m 0 c).share_full fun _ => rfl)
    (howed := fun _ _ => rfl) (V := V m) (hmain := hmain m Variants.none) (hA := A_eq m) (hpf := V_pre m)
    (hin := held_in m) (hout := held_out m)

/-- What a final state holds: the result array as the data say, and the arguments unchanged. -/
theorem post_read {r : PUnit × MemSt nD τ sig (Elt F)} (h : Pipeline.FramePost (Pipeline.pin pcfgs fun _ => adm m) (dats m) 0 (V m) r) (c : Dev nD) :
    r.2.mem ((c.tc : Thread nD τ).loc main_v4) = (dats m 0 c).arrAt 7 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c).1 7, ((h c).2 main_arg0 (by decide : main_arg0 ∈ Pipeline.restRefs sig spec0)).trans (V_main_arg0 m c),
      (((h c).1 0).trans ((dats m 0 c).arrAt_in 0 rfl _)).trans ((A_eq m c 0).trans (V_main_arg1 m c)),
      ((h c).2 main_arg2 (by decide : main_arg2 ∈ Pipeline.restRefs sig spec0)).trans (V_main_arg2 m c),
      (((h c).1 3).trans ((dats m 0 c).arrAt_in 3 rfl _)).trans ((A_eq m c 3).trans (V_main_arg3 m c)),
      ((h c).2 main_arg4 (by decide : main_arg4 ∈ Pipeline.restRefs sig spec0)).trans (V_main_arg4 m c),
      (((h c).1 5).trans ((dats m 0 c).arrAt_in 5 rfl _)).trans ((A_eq m c 5).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩

/-- The arguments end unchanged and the machine is quiescent. -/
theorem frame (hcols : ∀ n, (tbl m 0 n : BitVec 32).toNat < 64) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => (post_read m h.1 c).2, h.2⟩) (run_main m ρ hcols)

/-- Every run ends with the result array as the data say and the arguments unchanged. -/
theorem run_value (hcols : ∀ n, (tbl m 0 n : BitVec 32).toNat < 64) : θ_run defs (onTc (τ := τ) (main (F := F))) ⟨m, fun _ => 0, ρ⟩ (fun r => ∀ c : Dev nD,
      r.2.mem ((c.tc : Thread nD τ).loc main_v4) = (dats m 0 c).arrAt 7 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => post_read m h.1 c) (run_main m ρ hcols)

end Cert.KernelIdeal.Hand

end
-- ==== Proof.Pay.lean ====
/-
  The kernel's stored values, entry by entry, over the extended reals.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- One entry of the first layer's tile: the row of weights against the batch row, the bias added,
    the positive part taken. -/
theorem pay4_apply (x2 : Vec Ideal S512x1024 .f32) (x3 : Vec Ideal S1024x1024 .bf16) (x4 : Vec Ideal S512x1 .f32)
    (p : Fin 512) (q : Fin 1024) :
    k0_pay4 x2 x3 x4 (ix2 p q)
      = max ((∑ k : Fin 1024, (x2 (ix2 p k) : EReal) * (x3 (ix2 q k) : EReal)) + (x4 (ix2 p 0) : EReal)) 0 := by
  unfold k0_pay4
  pointwise

/-- One entry of a row of the sparse layer: the row of the slab against the gathered column, the
    bias added, the positive part taken. -/
theorem pay2_apply (x : Vec Ideal S64x1024 .bf16) (y : Vec Ideal S1024x1024 .bf16) (z : Vec Ideal S64x1 .f32)
    (p : Fin 64) (q : Fin 1024) :
    k0_pay2 x y z (ix2 p q)
      = max ((∑ k : Fin 1024, (x (ix2 p k) : EReal) * (y (ix2 k q) : EReal)) + (z (ix2 p 0) : EReal)) 0 := by
  unfold k0_pay2
  pointwise

/-- One entry of the output tile: the hidden column against the row of the last weights, the bias
    added. -/
theorem pay3_apply (x : Vec Ideal S4096x1024 .bf16) (y : Vec Ideal S256x4096 .f32) (z : Vec Ideal S1x256 .f32)
    (p : Fin 1024) (q : Fin 256) :
    k0_pay3 x y z (ix2 p q)
      = (∑ k : Fin 4096, (x (ix2 k p) : EReal) * (y (ix2 q k) : EReal)) + (z (ix2 0 q) : EReal) := by
  unfold k0_pay3
  pointwise

end Cert.KernelIdeal.Hand
-- ==== Proof.Spec.lean ====
/-
  The network both programs compute, written over the extended reals: a dense layer, a block-sparse
  layer whose block row `r` holds the sixteen blocks `16 r`, …, `16 r + 15`, and a dense layer.
-/
module

public import Idealize.ShloMosaic.PureOps
public import Idealize.ShloMosaic.Lib.Pointwise

@[expose] public section

noncomputable section

namespace Cert.Spec

open Idealize.ShloMosaic

/-- The first layer, at batch row `b` and feature `f`. -/
def hidden1 (x : (⟨2, ![1024, 1024]⟩ : Shape).Idx → EReal) (w1 : (⟨2, ![4096, 1024]⟩ : Shape).Idx → EReal)
    (b1 : (⟨1, ![4096]⟩ : Shape).Idx → EReal) (b : Fin 1024) (f : Fin 4096) : EReal :=
  max ((∑ k : Fin 1024, x (ix2 b k) * w1 (ix2 f k)) + b1 (ix1 f)) 0

/-- The `j`-th block of block row `r`. -/
def blockNo (r : Fin 64) (j : Fin 16) : Fin 1024 := ⟨16 * r.val + j.val, by omega⟩

/-- The feature of block column `q` and offset `c`. -/
def feature (q : Fin 64) (c : Fin 64) : Fin 4096 := ⟨64 * q.val + c.val, by omega⟩

/-- The block-sparse layer over hidden values `h`, at batch row `b`, block row `r` and offset `o`. -/
def hidden2 (h : Fin 1024 → Fin 4096 → EReal) (v : (⟨3, ![1024, 64, 64]⟩ : Shape).Idx → EReal) (col : Fin 1024 → Fin 64)
    (b2 : (⟨1, ![4096]⟩ : Shape).Idx → EReal) (b : Fin 1024) (r o : Fin 64) : EReal :=
  max ((∑ j : Fin 16, ∑ c : Fin 64, h b (feature (col (blockNo r j)) c) * v (ix3 (blockNo r j) o c)) + b2 (ix1 (feature r o))) 0

/-- The block row of a feature. -/
def rowOf (f : Fin 4096) : Fin 64 := ⟨f.val / 64, by omega⟩
/-- A feature's offset in its block row. -/
def offOf (f : Fin 4096) : Fin 64 := ⟨f.val % 64, by omega⟩

/-- A feature is the one of its block row and offset. -/
theorem feature_rowOf (f : Fin 4096) : feature (rowOf f) (offOf f) = f := Fin.ext (by show 64 * (f.val / 64) + f.val % 64 = f.val; omega)

/-- The network's output at batch row `b` and output column `q`. -/
def output (x : (⟨2, ![1024, 1024]⟩ : Shape).Idx → EReal) (w1 : (⟨2, ![4096, 1024]⟩ : Shape).Idx → EReal)
    (b1 : (⟨1, ![4096]⟩ : Shape).Idx → EReal) (v : (⟨3, ![1024, 64, 64]⟩ : Shape).Idx → EReal) (col : Fin 1024 → Fin 64)
    (b2 : (⟨1, ![4096]⟩ : Shape).Idx → EReal) (w3 : (⟨2, ![1024, 4096]⟩ : Shape).Idx → EReal) (b3 : (⟨1, ![1024]⟩ : Shape).Idx → EReal)
    (b q : Fin 1024) : EReal :=
  (∑ f : Fin 4096, hidden2 (hidden1 x w1 b1) v col b2 b (rowOf f) (offOf f) * w3 (ix2 q f)) + b3 (ix1 q)

/-- A sum over 1024 positions is the sum over sixteen blocks of 64. -/
theorem sum_blocks (g : Fin 16 → Fin 64 → EReal) :
    (∑ k : Fin 1024, g ⟨k.val / 64, by omega⟩ ⟨k.val % 64, by omega⟩) = ∑ j : Fin 16, ∑ c : Fin 64, g j c := by
  rw [← Fintype.sum_prod_type' g]
  refine Fintype.sum_equiv (finProdFinEquiv (m := 16) (n := 64)).symm _ _ fun k => ?_
  rfl

end Cert.Spec
-- ==== Proof.Blocks.lean ====
/-
  The blocks that each grid point reads, as entries of the arguments.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import proofs.«01_k».proof.Proof.KernelIdealFrame
public import proofs.«01_k».proof.Proof.Pay
public import proofs.«01_k».proof.Proof.Spec
public import Idealize.ShloMosaic.Lib.StableHlo.ReadAt
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- A grid point's number is below thirteen. -/
theorem lt_13 (t : Fin (cfgM m).N) : t.val < 13 := lt_of_lt_of_eq t.isLt (N_13 m)

/-! ## Which block of its array each window reads or writes at a grid point -/

/-- The block of the first weights at a grid point. -/
theorem tr0 : ∀ t : Fin grid0.N, cc0_transform_0 (grid0.coords t) = ![min t.val 7, 0] := by decide +kernel
/-- The block of the batch at a grid point. -/
theorem tr1 : ∀ t : Fin grid0.N, cc0_transform_1 (grid0.coords t) = ![0, 0] := by decide +kernel
/-- The block of the first bias at a grid point. -/
theorem tr2 : ∀ t : Fin grid0.N, cc0_transform_2 (grid0.coords t) = ![min t.val 7, 0] := by decide +kernel
/-- The block of the values at a grid point. -/
theorem tr3 : ∀ t : Fin grid0.N, cc0_transform_3 (grid0.coords t) = ![min t.val 7, 0, 0] := by decide +kernel
/-- The block of the second bias at a grid point. -/
theorem tr4 : ∀ t : Fin grid0.N, cc0_transform_4 (grid0.coords t) = ![0, 0] := by decide +kernel
/-- The block of the last weights at a grid point. -/
theorem tr5 : ∀ t : Fin grid0.N, cc0_transform_5 (grid0.coords t) = ![min (t.val - 9) 3, 0] := by decide +kernel
/-- The block of the last bias at a grid point. -/
theorem tr6 : ∀ t : Fin grid0.N, cc0_transform_6 (grid0.coords t) = ![0, min (t.val - 9) 3] := by decide +kernel
/-- The block of the output at a grid point. -/
theorem tr7 : ∀ t : Fin grid0.N, cc0_transform_7 (grid0.coords t) = ![0, min (t.val - 9) 3] := by decide +kernel

/-! ## The arrays the windows read, as entries of the arguments -/

/-- The array of the first weights that the region reads holds the argument's entries. -/
theorem V0 (i : S4096x1024.Idx) : V m c main_arg1 i = m ((c : Thread nD τ).loc main_arg1) i := by
  after_reads_at
/-- The array of the batch that the region reads holds the argument's entries. -/
theorem V1 (i : S1024x1024.Idx) : V m c main_v0 i = m ((c : Thread nD τ).loc main_arg0) i := by
  after_reads_at
/-- The array of the first bias that the region reads holds the argument's entries. -/
theorem V2 (i : Fin 4096) : V m c main_v1 (ix2 i 0) = m ((c : Thread nD τ).loc main_arg2) (ix1 i) := by
  after_reads_at
/-- The array of the values that the region reads holds the argument's entries. -/
theorem V3 (i : S1024x64x64.Idx) : V m c main_arg3 i = m ((c : Thread nD τ).loc main_arg3) i := by
  after_reads_at
/-- The array of the second bias that the region reads holds the argument's entries. -/
theorem V4 (i : Fin 4096) : V m c main_v2 (ix2 i 0) = m ((c : Thread nD τ).loc main_arg4) (ix1 i) := by
  after_reads_at
/-- The array of the last weights that the region reads holds the argument's entries. -/
theorem V5 (i : S1024x4096.Idx) : V m c main_arg5 i = m ((c : Thread nD τ).loc main_arg5) i := by
  after_reads_at
/-- The array of the last bias that the region reads holds the argument's entries. -/
theorem V6 (i : Fin 1024) : V m c main_v3 (ix2 0 i) = m ((c : Thread nD τ).loc main_arg6) (ix1 i) := by
  after_reads_at
/-- The table of block columns is the argument's. -/
theorem V8 (i : S1024.Idx) : V m c main_arg8 i = m ((c : Thread nD τ).loc main_arg8) i := by
  after_reads_at

/-! ## The blocks, as entries of the arguments -/

/-- The block of the first weights at a grid point, as entries of the argument. -/
theorem iblk0 (t : Fin (cfgM m).N) (ht : t.val < 8) (p : Fin 512) (q : Fin 1024) :
    iblk m c 0 t (ix2 p q) = m ((c : Thread nD τ).loc main_arg1) (ix2 ⟨512 * t.val + p.val, by omega⟩ q) := by
  have hN : t.val < 13 := lt_13 m t
  refine (V0 m c _).trans ?_
  congr 1
  funext a
  match a with
  | ⟨0, _⟩ =>
    refine Fin.ext ?_
    show cc0_transform_0 (grid0.coords t) 0 * 512 + 1 * p.val = 512 * t.val + p.val
    rw [tr0]; show min t.val 7 * 512 + 1 * p.val = _; omega
  | ⟨1, _⟩ =>
    refine Fin.ext ?_
    show cc0_transform_0 (grid0.coords t) 1 * 1024 + 1 * q.val = q.val
    rw [tr0]; show 0 * 1024 + 1 * q.val = _; omega

/-- The block of the batch at a grid point, as entries of the argument. -/
theorem iblk1 (t : Fin (cfgM m).N) (p q : Fin 1024) :
    iblk m c 1 t (ix2 p q) = m ((c : Thread nD τ).loc main_arg0) (ix2 p q) := by
  have hN : t.val < 13 := lt_13 m t
  refine (V1 m c _).trans ?_
  congr 1
  funext a
  match a with
  | ⟨0, _⟩ =>
    refine Fin.ext ?_
    show cc0_transform_1 (grid0.coords t) 0 * 1024 + 1 * p.val = p.val
    rw [tr1]; show 0 * 1024 + 1 * p.val = _; omega
  | ⟨1, _⟩ =>
    refine Fin.ext ?_
    show cc0_transform_1 (grid0.coords t) 1 * 1024 + 1 * q.val = q.val
    rw [tr1]; show 0 * 1024 + 1 * q.val = _; omega

/-- The block of the first bias at a grid point, as entries of the argument. -/
theorem iblk2 (t : Fin (cfgM m).N) (ht : t.val < 8) (p : Fin 512) :
    iblk m c 2 t (ix2 p 0) = m ((c : Thread nD τ).loc main_arg2) (ix1 ⟨512 * t.val + p.val, by omega⟩) := by
  have hN : t.val < 13 := lt_13 m t
  refine (congrArg (V m c main_v1) ?_).trans (V2 m c _)
  funext a
  match a with
  | ⟨0, _⟩ =>
    refine Fin.ext ?_
    show cc0_transform_2 (grid0.coords t) 0 * 512 + 1 * p.val = 512 * t.val + p.val
    rw [tr2]; show min t.val 7 * 512 + 1 * p.val = _; omega
  | ⟨1, _⟩ =>
    refine Fin.ext ?_
    show cc0_transform_2 (grid0.coords t) 1 * 1 + 1 * 0 = 0
    rw [tr2]; show 0 * 1 + 1 * 0 = _; omega

/-- The block of the values at a grid point, as entries of the argument. -/
theorem iblk3 (t : Fin (cfgM m).N) (ht : t.val < 8) (p : Fin 128) (o q : Fin 64) :
    iblk m c 3 t (ix3 p o q) = m ((c : Thread nD τ).loc main_arg3) (ix3 ⟨128 * t.val + p.val, by omega⟩ o q) := by
  have hN : t.val < 13 := lt_13 m t
  refine (V3 m c _).trans ?_
  congr 1
  funext a
  match a with
  | ⟨0, _⟩ =>
    refine Fin.ext ?_
    show cc0_transform_3 (grid0.coords t) 0 * 128 + 1 * p.val = 128 * t.val + p.val
    rw [tr3]; show min t.val 7 * 128 + 1 * p.val = _; omega
  | ⟨1, _⟩ =>
    refine Fin.ext ?_
    show cc0_transform_3 (grid0.coords t) 1 * 64 + 1 * o.val = o.val
    rw [tr3]; show 0 * 64 + 1 * o.val = _; omega
  | ⟨2, _⟩ =>
    refine Fin.ext ?_
    show cc0_transform_3 (grid0.coords t) 2 * 64 + 1 * q.val = q.val
    rw [tr3]; show 0 * 64 + 1 * q.val = _; omega

/-- The block of the second bias at a grid point, as entries of the argument. -/
theorem iblk4 (t : Fin (cfgM m).N) (p : Fin 4096) :
    iblk m c 4 t (ix2 p 0) = m ((c : Thread nD τ).loc main_arg4) (ix1 p) := by
  have hN : t.val < 13 := lt_13 m t
  refine (congrArg (V m c main_v2) ?_).trans (V4 m c _)
  funext a
  match a with
  | ⟨0, _⟩ =>
    refine Fin.ext ?_
    show cc0_transform_4 (grid0.coords t) 0 * 4096 + 1 * p.val = p.val
    rw [tr4]; show 0 * 4096 + 1 * p.val = _; omega
  | ⟨1, _⟩ =>
    refine Fin.ext ?_
    show cc0_transform_4 (grid0.coords t) 1 * 1 + 1 * 0 = 0
    rw [tr4]; show 0 * 1 + 1 * 0 = _; omega

/-- The block of the last weights at a grid point, as entries of the argument. -/
theorem iblk5 (t : Fin (cfgM m).N) (ht : 8 < t.val) (p : Fin 256) (q : Fin 4096) :
    iblk m c 5 t (ix2 p q) = m ((c : Thread nD τ).loc main_arg5) (ix2 ⟨256 * (t.val - 9) + p.val, by have := lt_13 m t; omega⟩ q) := by
  have hN : t.val < 13 := lt_13 m t
  refine (V5 m c _).trans ?_
  congr 1
  funext a
  match a with
  | ⟨0, _⟩ =>
    refine Fin.ext ?_
    show cc0_transform_5 (grid0.coords t) 0 * 256 + 1 * p.val = 256 * (t.val - 9) + p.val
    rw [tr5]; show min (t.val - 9) 3 * 256 + 1 * p.val = _; omega
  | ⟨1, _⟩ =>
    refine Fin.ext ?_
    show cc0_transform_5 (grid0.coords t) 1 * 4096 + 1 * q.val = q.val
    rw [tr5]; show 0 * 4096 + 1 * q.val = _; omega

/-- The block of the last bias at a grid point, as entries of the argument. -/
theorem iblk6 (t : Fin (cfgM m).N) (ht : 8 < t.val) (q : Fin 256) :
    iblk m c 6 t (ix2 0 q) = m ((c : Thread nD τ).loc main_arg6) (ix1 ⟨256 * (t.val - 9) + q.val, by have := lt_13 m t; omega⟩) := by
  have hN : t.val < 13 := lt_13 m t
  refine (congrArg (V m c main_v3) ?_).trans (V6 m c _)
  funext a
  match a with
  | ⟨0, _⟩ =>
    refine Fin.ext ?_
    show cc0_transform_6 (grid0.coords t) 0 * 1 + 1 * 0 = 0
    rw [tr6]; show 0 * 1 + 1 * 0 = _; omega
  | ⟨1, _⟩ =>
    refine Fin.ext ?_
    show cc0_transform_6 (grid0.coords t) 1 * 256 + 1 * q.val = 256 * (t.val - 9) + q.val
    rw [tr6]; show min (t.val - 9) 3 * 256 + 1 * q.val = _; omega

end Cert.KernelIdeal.Hand
-- ==== Proof.KernelValue.lean ====
/-
  What the kernel's scratch arrays and its output hold over the extended reals: the network of `Spec`.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Pointwise
public import Idealize.ShloMosaic.Lib.WholeRead
public import Idealize.ShloMosaic.Lib.Tactic
public import Idealize.ShloMosaic.Lib.WordCmp
public import proofs.«01_k».proof.Proof.KernelIdealFrame
public import proofs.«01_k».proof.Proof.Blocks
public import proofs.«01_k».proof.Proof.Spec
public import Idealize.ShloMosaic.Lib.StableHlo.ReadAt
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

variable (m : (ℓ : Loc nD τ sig) → Buf (Elt Ideal) ℓ) (c : Dev nD)

/-- The first layer of the arguments. -/
abbrev first (b : Fin 1024) (f : Fin 4096) : EReal :=
  hidden1 (m ((c : Thread nD τ).loc main_arg0)) (m ((c : Thread nD τ).loc main_arg1)) (m ((c : Thread nD τ).loc main_arg2)) b f

/-- The block columns of the arguments. -/
abbrev cols (n : Fin 1024) : Fin 64 := ⟨(m ((c : Thread nD τ).loc main_arg8) (ix1 n) : BitVec 32).toNat % 64, by omega⟩

/-- The network's output of the arguments. -/
abbrev outVal : Buf (Elt Ideal) ((c : Thread nD τ).loc main_v4) := fun y : S1024x1024.Idx =>
  output (m ((c : Thread nD τ).loc main_arg0)) (m ((c : Thread nD τ).loc main_arg1)) (m ((c : Thread nD τ).loc main_arg2))
    (m ((c : Thread nD τ).loc main_arg3)) (cols m c) (m ((c : Thread nD τ).loc main_arg4)) (m ((c : Thread nD τ).loc main_arg5))
    (m ((c : Thread nD τ).loc main_arg6)) (y 0) (y 1)

/-- The kernel's first scratch array holds the first layer, features down and batch rows across. -/
theorem H1_apply (f : Fin 4096) (b : Fin 1024) : H1 m c (ix2 f b) = first m c b f := by
  have hk : f.val / 512 < 8 := by omega
  refine (pay4_apply _ _ _ ⟨f.val % 512, by omega⟩ b).trans ?_
  unfold first hidden1
  refine congrArg₂ max (congrArg₂ (fun u v : EReal => u + v) (Finset.sum_congr rfl fun k _ => ?_) ?_) rfl
  · refine (mul_comm _ _).trans (congrArg₂ (fun u v : EReal => u * v) (iblk1 m c _ b k)
      ((iblk0 m c (pt m (f.val / 512) (by omega)) hk ⟨f.val % 512, by omega⟩ k).trans ?_))
    exact congrArg (fun i => m ((c : Thread nD τ).loc main_arg1) (ix2 i k)) (Fin.ext (show 512 * (f.val / 512) + f.val % 512 = f.val by omega))
  · refine (iblk2 m c (pt m (f.val / 512) (by omega)) hk ⟨f.val % 512, by omega⟩).trans ?_
    exact congrArg (fun i => m ((c : Thread nD τ).loc main_arg2) (ix1 i)) (Fin.ext (show 512 * (f.val / 512) + f.val % 512 = f.val by omega))

/-- The kernel's third scratch array holds the values, block row by block row. -/
theorem VT_apply (r o : Fin 64) (k : Fin 1024) :
    VT m c (ix3 r o k) = m ((c : Thread nD τ).loc main_arg3) (ix3 (blockNo r ⟨k.val / 64, by omega⟩) o ⟨k.val % 64, by omega⟩) := by
  have hk : r.val / 8 < 8 := by omega
  refine (iblk3 m c (pt m (r.val / 8) (by omega)) hk ⟨16 * (r.val % 8) + k.val / 64, by omega⟩ o ⟨k.val % 64, by omega⟩).trans ?_
  exact congrArg (fun i => m ((c : Thread nD τ).loc main_arg3) (ix3 i o ⟨k.val % 64, by omega⟩))
    (Fin.ext (show 128 * (r.val / 8) + (16 * (r.val % 8) + k.val / 64) = 16 * r.val + k.val / 64 by omega))

/-- The block columns the body reads are the argument's. -/
theorem colOf_eq (n : Fin 1024) : colOf c (tbl m 0) n = cols m c n := by
  obtain rfl : c = 0 := Subsingleton.elim _ _
  exact Fin.ext (congrArg (fun n : BitVec 32 => n.toNat % 64) (V8 m 0 (ix1 n)))

/-- The kernel's second scratch array holds the block-sparse layer. -/
theorem H2_apply (f : Fin 4096) (b : Fin 1024) :
    H2 m c (ix2 f b) = hidden2 (first m c) (m ((c : Thread nD τ).loc main_arg3)) (cols m c) (m ((c : Thread nD τ).loc main_arg4)) b (rowOf f) (offOf f) := by
  refine (pay2_apply _ _ _ (offOf f) b).trans ?_
  unfold hidden2
  rw [← sum_blocks]
  refine congrArg₂ max (congrArg₂ (fun u v : EReal => u + v) (Finset.sum_congr rfl fun k _ => ?_) (iblk4 m c _ _)) rfl
  refine (mul_comm _ _).trans (congrArg₂ (fun u v : EReal => u * v) ?_ (VT_apply m c (rowOf f) (offOf f) k))
  refine (H1_apply m c _ b).trans ?_
  exact congrArg (fun q => first m c b (feature q ⟨k.val % 64, by omega⟩)) (colOf_eq m c (blockNo (rowOf f) ⟨k.val / 64, by omega⟩))

/-- The output tile at a late point, entry by entry. -/
theorem tile_apply (t : Fin (cfgM m).N) (ht : 8 < t.val) (p : Fin 1024) (q : Fin 256) :
    k0_pay3 (H2 m c) (iblk m c 5 t) (iblk m c 6 t) (ix2 p q)
      = outVal m c (ix2 p ⟨256 * (t.val - 9) + q.val, by have := lt_13 m t; omega⟩) := by
  refine (pay3_apply _ _ _ p q).trans ?_
  refine congrArg₂ (fun u v : EReal => u + v) (Finset.sum_congr rfl fun f _ => ?_) (iblk6 m c t ht q)
  exact congrArg₂ (fun u v : EReal => u * v) (H2_apply m c f p) (iblk5 m c t ht q f)

/-- The tile written at a late point is that tile of the network's output. -/
theorem flushed_eq (t : Fin (cfgM m).N) (ht : 8 < t.val) :
    (dats m 0 c).flushed 7 t = (((cfgM m).win 7).blk t).view.read (Elt Ideal) (outVal m c) := by
  show ((cfgM m).win 7).cut ((cfgM m).grid.coords t) ((dats m 0 c).after 7 t) = _
  rw [after_7]
  have hN := lt_13 m t
  refine funext fun y : S1024x256.Idx => ?_
  obtain ⟨p, q, rfl⟩ : ∃ (p : Fin 1024) (q : Fin 256), y = ix2 p q := ⟨y 0, y 1, by funext a; match a with | ⟨0, _⟩ => rfl | ⟨1, _⟩ => rfl⟩
  refine Eq.trans (b := k0_pay3 (H2 m c) (iblk m c 5 t) (iblk m c 6 t) (ix2 p q)) rfl ?_
  refine (tile_apply m c t ht p q).trans (congrArg (outVal m c) ?_)
  funext a
  match a with
  | ⟨0, _⟩ =>
    refine Fin.ext ?_
    show p.val = cc0_transform_7 (grid0.coords t) 0 * 1024 + 1 * p.val
    rw [tr7]; show p.val = 0 * 1024 + 1 * p.val; omega
  | ⟨1, _⟩ =>
    refine Fin.ext ?_
    show 256 * (t.val - 9) + q.val = cc0_transform_7 (grid0.coords t) 1 * 256 + 1 * q.val
    rw [tr7]; show 256 * (t.val - 9) + q.val = min (t.val - 9) 3 * 256 + 1 * q.val; omega

/-- Every entry of the output is in the tile of a late point. -/
theorem cover (i : S1024x1024.Idx) : ∃ t : Fin (cfgM m).N, ((cfgM m).win 7).flush t = true ∧ i ∈ (((cfgM m).win 7).blk t).view.set := by
  have h0 : (i 0).val < 1024 := (i 0).isLt
  have h1 : (i 1).val < 1024 := (i 1).isLt
  refine ⟨pt m (9 + (i 1).val / 256) (by omega), flush_late m _ (show 8 < 9 + (i 1).val / 256 by omega), ?_⟩
  refine (congrArg (fun S : Finset S1024x1024.Idx => i ∈ S) (View.set_slice_whole main_v4 (((cfgM m).win 7).rect (pt m (9 + (i 1).val / 256) (by omega))))).mpr ?_
  refine Rect.mem_set_unit.mpr ?_
  intro a
  match a with
  | ⟨0, _⟩ =>
    show cc0_transform_7 (grid0.coords (pt m (9 + (i 1).val / 256) (by omega))) 0 * 1024 ≤ (i 0).val ∧ (i 0).val < cc0_transform_7 (grid0.coords (pt m (9 + (i 1).val / 256) (by omega))) 0 * 1024 + 1024
    rw [tr7]; show 0 * 1024 ≤ (i 0).val ∧ (i 0).val < 0 * 1024 + 1024; omega
  | ⟨1, _⟩ =>
    show cc0_transform_7 (grid0.coords (pt m (9 + (i 1).val / 256) (by omega))) 1 * 256 ≤ (i 1).val ∧ (i 1).val < cc0_transform_7 (grid0.coords (pt m (9 + (i 1).val / 256) (by omega))) 1 * 256 + 256
    rw [tr7]; show min (9 + (i 1).val / 256 - 9) 3 * 256 ≤ (i 1).val ∧ (i 1).val < min (9 + (i 1).val / 256 - 9) 3 * 256 + 256; omega

/-- After the grid the output array holds the network's output. -/
theorem final_out : (dats m 0 c).arrAt 7 (cfgM m).N = outVal m c :=
  (dats m 0 c).arrAt_eq_of_cover 7 (outVal m c)
    (fun t ht => flushed_eq m c t (by
      by_contra h
      exact absurd ((flush_early m t (by omega)).symm.trans ht) (by decide)))
    (cover m)

end Cert.KernelIdeal.Hand
-- ==== Proof.Csr.lean ====
/- What the precondition says of the block-sparse matrix's index arrays. -/
module

public import proofs.«01_k».proof.Pre_csr_structure
public import Idealize.ShloMosaic.Lib.Pointwise

@[expose] public section

noncomputable section

namespace Cert.Csr

open Idealize.ShloMosaic Cert.Pre_csr_structure

variable {F : FTy → Type} [FloatOps F] [Facts]

/-- The index arrays of a matrix with sixteen blocks in each of its 64 block rows: the row pointers are the multiples of sixteen and
    every block column is below 64. -/
structure Regular (crow : IVec S65 32) (cols : IVec S1024 32) : Prop where
  crow_eq : ∀ i : S65.Idx, crow i = BitVec.ofNat 32 (16 * (i 0).val)
  cols_lt : ∀ i : S1024.Idx, (cols i).toNat < 64

/-- A word that is signed at least zero and below 64 is below 64. -/
theorem word_lt (w : BitVec 32) (h : IntOp.andi (IntOp.cmpi .sge w 0#32) (IntOp.cmpi .slt w 64#32) = 1#1) : w.toNat < 64 := by
  have key : (BitVec.sle 0#32 w && BitVec.slt w 64#32) = true := by
    revert h
    show (BitVec.ofBool (BitVec.sle 0#32 w) &&& BitVec.ofBool (BitVec.slt w 64#32)) = 1#1 → _
    cases BitVec.sle 0#32 w <;> cases BitVec.slt w 64#32 <;> decide
  simp only [Bool.and_eq_true, BitVec.sle, BitVec.slt, decide_eq_true_eq, BitVec.toInt, BitVec.toNat_ofNat] at key
  omega

/-- Words compared equal are equal. -/
theorem word_eq (v w : BitVec 32) (h : IntOp.cmpi .eq v w = 1#1) : v = w := by
  revert h
  show BitVec.ofBool (v == w) = 1#1 → _
  cases e : (v == w)
  · exact fun h => absurd h (by decide)
  · exact fun _ => eq_of_beq e

/-- The precondition says that the index arrays are regular. -/
theorem regular_of_pre (a0 : FVec F S1024x1024 .f32) (a1 : FVec F S4096x1024 .f32) (a2 : FVec F S4096 .f32) (a3 : FVec F S1024x64x64 .f32)
    (a4 : FVec F S4096 .f32) (a5 : FVec F S1024x4096 .f32) (a6 : FVec F S1024 .f32) (crow : IVec S65 32) (cols : IVec S1024 32)
    (h1 : (fn a0 a1 a2 a3 a4 a5 a6 crow cols).1 = fun _ => 1#1) (h2 : (fn a0 a1 a2 a3 a4 a5 a6 crow cols).2 = fun _ => 1#1) :
    Regular crow cols where
  crow_eq i := by
    refine (word_eq _ _ (congrFun h1 i)).trans ?_
    show (16#32) * BitVec.ofNat 32 (i 0).val = _
    rw [show (16#32) = BitVec.ofNat 32 16 from rfl, ← BitVec.ofNat_mul]
  cols_lt i := word_lt _ (congrFun h2 i)

end Cert.Csr

end
-- ==== Proof.RowIds.lean ====
/-
  The reference's row ids: `repeat` of the block rows by the row counts, as the program spells it
  (counts, rolled, a first entry of zero, a running sum, a histogram of the row starts, a running sum
  again, a take). With sixteen blocks a row, block `n` has row `n / 16`.
-/
module

public import proofs.«01_k».proof.Proof.Gen.ReferenceIdeal
public import proofs.«01_k».proof.Proof.Csr
public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-! ## The stages -/

/-- How many blocks each row has. -/
def counts (crow : IVec S65 32) : IVec S64 32 :=
  subi (extractStridedSlice S64 ![1] crow slices_S65_S64_1) (extractStridedSlice S64 ![0] crow slices_S65_S64_0)
/-- The counts, the last one moved to the front. -/
def rolled (crow : IVec S65 32) : IVec S64 32 :=
  concatenate S64 0 [⟨S1, extractStridedSlice S1 ![63] (counts crow) slices_S64_S1_63⟩, ⟨S63, extractStridedSlice S63 ![0] (counts crow) slices_S64_S63_0⟩] concatenates_S1_S63_S64_d0
/-- The rolled counts with zero in front. -/
def shifted (crow : IVec S65 32) : IVec S64 32 :=
  Host.scatter scatter_S64_S1_S__n_0_0_0 (fun _ b => b) (rolled crow) (broadcastInDim S1 ![] bcast_S_S1 (constantI S_ 32 0#32)) (constantI S_ 32 0#32)
/-- Where each row starts. -/
def starts (crow : IVec S65 32) : IVec S64 32 :=
  Host.reduceWindow IntOp.addi ![64] ![1] ![63] ![0] (shifted crow) (broadcastInDim S_ ![] bcast_S_S_ (constantI S_ 32 0#32)) reduceWindows_S64_S64_w64s1p63_0 h_S_
/-- The starts as scatter indices. -/
def startIdx (crow : IVec S65 32) : IVec S64x1 32 :=
  broadcastInDim S64x1 ![0] bcast_S64_S64x1_0 (select (cmpi .slt (starts crow) (broadcastInDim S64 ![] bcast_S_S64 (constantI S_ 32 0#32)))
    (addi (starts crow) (broadcastInDim S64 ![] bcast_S_S64 (constantI S_ 32 1024#32))) (starts crow))
/-- How many rows start at each block. -/
def hist (crow : IVec S65 32) : IVec S1024 32 :=
  Host.scatter scatter_S1024_S64x1_S64_n_0_0_1 IntOp.addi (broadcastInDim S1024 ![] bcast_S_S1024 (constantI S_ 32 0#32)) (startIdx crow)
    (broadcastInDim S64 ![] bcast_S_S64 (constantI S_ 32 1#32))
/-- How many rows start at or before each block. -/
def started (crow : IVec S65 32) : IVec S1024 32 :=
  Host.reduceWindow IntOp.addi ![1024] ![1] ![1023] ![0] (hist crow) (broadcastInDim S_ ![] bcast_S_S_ (constantI S_ 32 0#32)) reduceWindows_S1024_S1024_w1024s1p1023_0 h_S_
/-- Each block's row, less than none wrapped. -/
def wrapped (crow : IVec S65 32) : IVec S1024 32 :=
  select (cmpi .slt (subi (started crow) (broadcastInDim S1024 ![] bcast_S_S1024 (constantI S_ 32 1#32))) (broadcastInDim S1024 ![] bcast_S_S1024 (constantI S_ 32 0#32)))
    (addi (subi (started crow) (broadcastInDim S1024 ![] bcast_S_S1024 (constantI S_ 32 1#32))) (broadcastInDim S1024 ![] bcast_S_S1024 (constantI S_ 32 64#32)))
    (subi (started crow) (broadcastInDim S1024 ![] bcast_S_S1024 (constantI S_ 32 1#32)))
/-- The same as take indices. -/
def takeIdx (crow : IVec S65 32) : IVec S1024x1 32 := broadcastInDim S1024x1 ![0] bcast_S1024_S1024x1_0 (wrapped crow)
/-- Which take indices are in bounds. -/
def inBounds (crow : IVec S65 32) : IVec S1024 1 :=
  Host.reduce IntOp.andi (andi (cmpi .sge (takeIdx crow) (broadcastInDim S1024x1 ![] bcast_S_S1024x1 (constantI S_ 32 0#32)))
    (cmpi .sle (takeIdx crow) (broadcastInDim S1024x1 ![0, 1] bcast_S1x1_S1024x1_0_1 (broadcastInDim S1x1 ![1] bcast_S1_S1x1_1 (constantI S1 32 63#32)))))
    (constantI S_ 1 1#1) reducesTo_S1024x1_S1024_d1 h_S_
/-- Each block's row. -/
def rowIds (crow : IVec S65 32) : IVec S1024 32 :=
  select (inBounds crow) (Host.gather gather_S64_S1024x1_S1024_n_0_n_n_0_1_1 (iotaInDim S64 32 0) (takeIdx crow))
    (broadcastInDim S1024 ![] bcast_S_S1024 (constantI S_ 32 2147483648#32))

/-! ## The stages' values, sixteen blocks a row -/

variable {crow : IVec S65 32} (hc : ∀ i : Fin 65, crow (ix1 i) = BitVec.ofNat 32 (16 * i.val))
include hc

/-- Every row has sixteen blocks. -/
theorem counts_apply (i : Fin 64) : counts crow (ix1 i) = 16#32 := by
  have h1 : extractStridedSlice S64 ![1] crow slices_S65_S64_1 (ix1 i) = BitVec.ofNat 32 (16 * (1 + i.val)) :=
    (Routing.slice1 1 crow slices_S65_S64_1 i (by omega)).trans (hc ⟨1 + i.val, by omega⟩)
  have h0 : extractStridedSlice S64 ![0] crow slices_S65_S64_0 (ix1 i) = BitVec.ofNat 32 (16 * (0 + i.val)) :=
    (Routing.slice1 0 crow slices_S65_S64_0 i (by omega)).trans (hc ⟨0 + i.val, by omega⟩)
  refine (congrArg₂ (fun u v : BitVec 32 => u - v) h1 h0).trans ?_
  rw [Nat.mul_add, Nat.zero_add, BitVec.ofNat_add]
  exact BitVec.add_sub_cancel _ _

/-- So has every row after the roll. -/
theorem rolled_apply (i : Fin 64) : rolled crow (ix1 i) = 16#32 := by
  have hcnt : counts crow = fun _ => 16#32 := by
    funext y
    obtain ⟨k, rfl⟩ : ∃ k : Fin 64, y = ix1 k := ⟨y 0, by funext a; match a with | ⟨0, _⟩ => rfl⟩
    exact counts_apply hc _
  unfold rolled
  rw [hcnt]
  pointwise
  split <;> rfl

/-- The shifted counts: zero, then sixteens. -/
theorem shifted_apply (i : Fin 64) : shifted crow (ix1 i) = BitVec.ofNat 32 (if i.val = 0 then 0 else 16) := by
  have hl : ∀ k : S_.Idx, scatter_S64_S1_S__n_0_0_0.resultIdx? k (broadcastInDim S1 ![] bcast_S_S1 (constantI S_ 32 0#32)) = some (ix1 i) ↔ i.val = 0 := by
    intro k
    refine (Routing.resultIdx?_eq_some _ _ _ _).trans ⟨fun h => ?_, fun h a => ?_⟩
    · have h0 : ((0 : Int) + ((0 : Nat) : Int)) = ((i.val : Nat) : Int) := h 0
      omega
    · match a with
      | ⟨0, _⟩ => show ((0 : Int) + ((0 : Nat) : Int)) = ((i.val : Nat) : Int); omega
  unfold shifted
  by_cases h : i.val = 0
  · rw [if_pos h]
    exact Routing.scatter_set_hit _ _ _ _ _ _ (fun _ _ => rfl) (fun a => a.elim0) ((hl _).2 h)
  · rw [if_neg h]
    exact (Routing.scatter_set_miss _ _ _ _ _ (fun k hk => h ((hl k).1 hk))).trans (rolled_apply hc i)

omit hc in
/-- The running sum of a zero and then sixteens. -/
theorem sum_shifted (n : Nat) : ((List.range (n + 1)).map fun i => if i = 0 then 0 else 16).sum = 16 * n := by
  induction n with
  | zero => rfl
  | succ n ih => rw [List.range_succ, List.map_append, List.sum_append, ih]; simp; omega

/-- Row `i` starts at block `16 i`. -/
theorem starts_apply (i : Fin 64) : starts crow (ix1 i) = BitVec.ofNat 32 (16 * i.val) :=
  (Routing.cumsum1 (N := 64) rfl (shifted crow) (fun i => if i = 0 then 0 else 16) (fun i => shifted_apply hc i) _ rfl reduceWindows_S64_S64_w64s1p63_0 h_S_ i).trans
    (congrArg (BitVec.ofNat 32) (sum_shifted i.val))

/-- The scatter index of row `i` is `16 i`. -/
theorem startIdx_apply (i : Fin 64) : startIdx crow (ix2 i 0) = BitVec.ofNat 32 (16 * i.val) := by
  refine Eq.trans ?_ (starts_apply hc i)
  unfold startIdx
  pointwise
  refine Routing.wrap_of_lt _ _ ?_
  rw [starts_apply hc i, BitVec.toNat_ofNat]
  omega

omit hc in
/-- An update of the histogram starts at its index, read signed. -/
theorem start_apply (idx : IVec S64x1 32) (n : Fin 64) :
    scatter_S1024_S64x1_S64_n_0_0_1.start (ix1 n) idx 0 = (idx (ix2 n 0)).toInt := by
  have hm : (0 : Fin 1) ∈ scatter_S1024_S64x1_S64_n_0_0_1.scatterDimsToOperandDims := List.mem_singleton.2 rfl
  unfold ScatterDims.start
  rw [dif_pos hm]
  congr 2
  funext a
  match a with
  | ⟨0, _⟩ => rfl
  | ⟨1, _⟩ => rfl

/-- Row `n`'s start lands at block `x` exactly when `16 n = x`. -/
theorem start_lands (n : Fin 64) (x : Fin 1024) :
    scatter_S1024_S64x1_S64_n_0_0_1.resultIdx? (ix1 n) (startIdx crow) = some (ix1 x) ↔ 16 * n.val = x.val := by
  have hs : scatter_S1024_S64x1_S64_n_0_0_1.start (ix1 n) (startIdx crow) 0 = ((16 * n.val : Nat) : Int) := by
    rw [start_apply, startIdx_apply hc, StableHlo.Predicate.toInt_ofNat_small _ (by omega)]
  have hw : scatter_S1024_S64x1_S64_n_0_0_1.window (ix1 n) 0 = 0 := rfl
  refine (Routing.resultIdx?_eq_some _ _ _ _).trans ⟨fun h => ?_, fun h a => ?_⟩
  · have h0 := h 0
    rw [hs, hw] at h0
    change ((16 * n.val : Nat) : Int) + ((0 : Nat) : Int) = ((x.val : Nat) : Int) at h0
    omega
  · match a with
    | ⟨0, _⟩ =>
      refine (congrArg₂ (fun (u : Int) (v : Nat) => u + (v : Int)) hs hw).trans ?_
      show ((16 * n.val : Nat) : Int) + ((0 : Nat) : Int) = ((x.val : Nat) : Int)
      omega

omit hc in
/-- Adding one at each hit counts the hits. -/
theorem fold_hits {ι : Type} (hit : ι → Prop) [DecidablePred hit] (l : List ι) (z : Nat) :
    l.foldl (fun (a : BitVec 32) n => if hit n then IntOp.addi a 1#32 else a) (BitVec.ofNat 32 z) = BitVec.ofNat 32 (z + l.countP fun n => decide (hit n)) := by
  induction l generalizing z with
  | nil => rfl
  | cons n l ih =>
    rw [List.foldl_cons, List.countP_cons]
    by_cases h : hit n
    · rw [if_pos h, show IntOp.addi (BitVec.ofNat 32 z) 1#32 = BitVec.ofNat 32 (z + 1) from (BitVec.ofNat_add z 1).symm, ih, if_pos (decide_eq_true h)]
      congr 1; omega
    · rw [if_neg h, ih, if_neg fun e => h (of_decide_eq_true e)]
      rfl

omit hc in
/-- Of 64 rows of sixteen blocks, one starts at each multiple of sixteen. -/
theorem count_starts : ∀ x : Fin 1024, (List.finRange 64).countP (fun n : Fin 64 => 16 * n.val = x.val) = if x.val % 16 = 0 then 1 else 0 := by
  decide +kernel

/-- One row starts at each multiple of sixteen. -/
theorem hist_apply (x : Fin 1024) : hist crow (ix1 x) = BitVec.ofNat 32 (if x.val % 16 = 0 then 1 else 0) := by
  refine (Routing.scatter_at _ _ _ _ _ _).trans ?_
  have e : ∀ n : Fin (Routing.shape1 64).numel, (scatter_S1024_S64x1_S64_n_0_0_1.resultIdx? (S64.rowMajor.symm n) (startIdx crow) = some (ix1 x)) = (16 * n.val = x.val) := fun n =>
    propext ((congrArg (fun y => scatter_S1024_S64x1_S64_n_0_0_1.resultIdx? y (startIdx crow) = some (ix1 x)) (Routing.symm1 n)).to_iff.trans (start_lands hc (n.cast (Routing.numel1 64)) x))
  have hone : ∀ y : S64.Idx, broadcastInDim S64 ![] bcast_S_S64 (constantI S_ 32 1#32) y = 1#32 := fun _ => rfl
  simp only [e, hone]
  refine (fold_hits (fun n : Fin (Routing.shape1 64).numel => 16 * n.val = x.val) _ 0).trans ?_
  rw [Routing.countP_finRange _ (fun n => 16 * n = x.val), Routing.numel1, ← Routing.countP_finRange, count_starts, Nat.zero_add]

omit hc in
/-- The running count of the multiples of sixteen. -/
theorem sum_hist (n : Nat) : ((List.range (n + 1)).map fun i => if i % 16 = 0 then 1 else 0).sum = n / 16 + 1 := by
  induction n with
  | zero => rfl
  | succ n ih =>
    rw [List.range_succ, List.map_append, List.sum_append, ih]
    simp only [List.map_cons, List.map_nil, List.sum_cons, List.sum_nil]
    split <;> omega

/-- At block `x`, `x / 16 + 1` rows have started. -/
theorem started_apply (x : Fin 1024) : started crow (ix1 x) = BitVec.ofNat 32 (x.val / 16 + 1) :=
  (Routing.cumsum1 (N := 1024) rfl (hist crow) (fun i => if i % 16 = 0 then 1 else 0) (fun i => hist_apply hc i) _ rfl reduceWindows_S1024_S1024_w1024s1p1023_0 h_S_ x).trans
    (congrArg (BitVec.ofNat 32) (sum_hist x.val))

/-- Block `x`'s row is `x / 16`. -/
theorem wrapped_apply (x : Fin 1024) : wrapped crow (ix1 x) = BitVec.ofNat 32 (x.val / 16) := by
  unfold wrapped
  pointwise
  have e : IntOp.subi (started crow (ix1 x)) 1#32 = BitVec.ofNat 32 (x.val / 16) := by
    rw [started_apply hc, BitVec.ofNat_add]
    exact BitVec.add_sub_cancel _ _
  rw [e]
  refine Routing.wrap_of_lt _ _ ?_
  rw [BitVec.toNat_ofNat]
  omega

/-- The take index of block `x` is `x / 16`. -/
theorem takeIdx_apply (x : Fin 1024) : takeIdx crow (ix2 x 0) = BitVec.ofNat 32 (x.val / 16) := by
  refine Eq.trans ?_ (wrapped_apply hc x)
  unfold takeIdx
  pointwise

omit hc in
/-- A natural of at most 63 passes both bounds checks. -/
theorem in_bounds (n : Nat) (hn : n ≤ 63) :
    IntOp.andi (IntOp.cmpi .sge (BitVec.ofNat 32 n) 0#32) (IntOp.cmpi .sle (BitVec.ofNat 32 n) 63#32) = 1#1 :=
  (by decide +kernel : ∀ n : Fin 64, IntOp.andi (IntOp.cmpi .sge (BitVec.ofNat 32 n.val) 0#32) (IntOp.cmpi .sle (BitVec.ofNat 32 n.val) 63#32) = 1#1) ⟨n, by omega⟩

/-- Every take index is in bounds. -/
theorem inBounds_apply (x : Fin 1024) : inBounds crow (ix1 x) = 1#1 := by
  unfold inBounds
  pointwise
  have e : ∀ k : Fin 1, takeIdx crow (ix2 x k) = BitVec.ofNat 32 (x.val / 16) := fun k => by
    obtain rfl : k = 0 := Subsingleton.elim _ _
    exact takeIdx_apply hc x
  simp only [e, in_bounds _ (show x.val / 16 ≤ 63 by omega)]
  rfl

/-- Block `x` is in row `x / 16`. -/
theorem rowIds_apply (x : Fin 1024) : rowIds crow (ix1 x) = BitVec.ofNat 32 (x.val / 16) := by
  have hg : Host.gather gather_S64_S1024x1_S1024_n_0_n_n_0_1_1 (iotaInDim S64 32 0) (takeIdx crow) (ix1 x) = BitVec.ofNat 32 (x.val / 16) :=
    (Routing.gather_take1 gather_S64_S1024x1_S1024_n_0_n_n_0_1_1 rfl rfl rfl rfl (iotaInDim S64 32 0) (takeIdx crow) x ⟨x.val / 16, by omega⟩ (takeIdx_apply hc x) (by omega)).trans rfl
  have hb := inBounds_apply hc x
  unfold rowIds
  show Scalar.select (inBounds crow (ix1 x)) (Host.gather gather_S64_S1024x1_S1024_n_0_n_n_0_1_1 (iotaInDim S64 32 0) (takeIdx crow) (ix1 x)) _ = _
  rw [hb, hg]
  rfl

end Cert.ReferenceIdeal.Hand
-- ==== Proof.RefValue.lean ====
/-
  The reference's result, entry by entry: the network of `Spec`.
-/
module

public import proofs.«01_k».proof.Proof.RowIds
public import proofs.«01_k».proof.Proof.Spec
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Spec

/-! ## The stages -/

/-- The first layer. -/
def layer1 (x : FVec Ideal S1024x1024 .f32) (w1 : FVec Ideal S4096x1024 .f32) (b1 : FVec Ideal S4096 .f32) : FVec Ideal S1024x4096 .f32 :=
  maximumf (addf (Host.dotGeneral dot_S1024x1024_S1024x4096_S1024x4096_1_0_0_1_n_n none x (transpose S1024x4096 [1, 0] w1 transposes_S4096x1024_S1024x4096_1_0))
    (broadcastInDim S1024x4096 ![0, 1] bcast_S1x4096_S1024x4096_0_1 (broadcastInDim S1x4096 ![1] bcast_S4096_S1x4096_1 b1)))
    (broadcastInDim S1024x4096 ![] bcast_S_S1024x4096 (constant S_ .f32 0x00000000#32))
/-- The block columns as take indices. -/
def colIdx (cols : IVec S1024 32) : IVec S1024x1 32 :=
  broadcastInDim S1024x1 ![0] bcast_S1024_S1024x1_0 (select (cmpi .slt cols (broadcastInDim S1024 ![] bcast_S_S1024 (constantI S_ 32 0#32)))
    (addi cols (broadcastInDim S1024 ![] bcast_S_S1024 (constantI S_ 32 64#32))) cols)
/-- Each block's 64 hidden features, taken from the first layer. -/
def taken (h : FVec Ideal S1024x4096 .f32) (cols : IVec S1024 32) : FVec Ideal S1024x1024x64 .f32 :=
  Host.gather gather_S1024x64x64_S1024x1_S1024x1024x64_02_1_n_n_1_1_1024164 (shapeCast S1024x64x64 h shapeCasts_S1024x4096_S1024x64x64) (colIdx cols)
/-- Each block's product, block number first. -/
def prods (h : FVec Ideal S1024x4096 .f32) (cols : IVec S1024 32) (v : FVec Ideal S1024x64x64 .f32) : FVec Ideal S1024x1024x64 .f32 :=
  Host.dotGeneral dot_S1024x1024x64_S1024x64x64_S1024x1024x64_2_2_0_1_1_0 none (taken h cols) v
/-- The products summed by block row. -/
def rowSums (p : FVec Ideal S1024x1024x64 .f32) (crow : IVec S65 32) : FVec Ideal S64x1024x64 .f32 :=
  Host.scatterAdd scatter_S64x1024x64_S1024x1_S1024x1024x64_12_0_0_1 (broadcastInDim S64x1024x64 ![] bcast_S_S64x1024x64 (constant S_ .f32 0x00000000#32))
    (broadcastInDim S1024x1 ![0] bcast_S1024_S1024x1_0 (rowIds crow))
    (transpose S1024x1024x64 [1, 0, 2] (transpose S1024x1024x64 [1, 0, 2] p transposes_S1024x1024x64_S1024x1024x64_1_0_2) transposes_S1024x1024x64_S1024x1024x64_1_0_2)
/-- The block-sparse layer. -/
def layer2 (s : FVec Ideal S64x1024x64 .f32) (b2 : FVec Ideal S4096 .f32) : FVec Ideal S1024x4096 .f32 :=
  maximumf (addf (shapeCast S1024x4096 (transpose S1024x64x64 [1, 0, 2] s transposes_S64x1024x64_S1024x64x64_1_0_2) shapeCasts_S1024x64x64_S1024x4096)
    (broadcastInDim S1024x4096 ![0, 1] bcast_S1x4096_S1024x4096_0_1 (broadcastInDim S1x4096 ![1] bcast_S4096_S1x4096_1 b2)))
    (broadcastInDim S1024x4096 ![] bcast_S_S1024x4096 (constant S_ .f32 0x00000000#32))
/-- The output layer. -/
def layer3 (h : FVec Ideal S1024x4096 .f32) (w3 : FVec Ideal S1024x4096 .f32) (b3 : FVec Ideal S1024 .f32) : FVec Ideal S1024x1024 .f32 :=
  addf (Host.dotGeneral dot_S1024x4096_S4096x1024_S1024x1024_1_0_0_1_n_n none h (transpose S4096x1024 [1, 0] w3 transposes_S1024x4096_S4096x1024_1_0))
    (broadcastInDim S1024x1024 ![0, 1] bcast_S1x1024_S1024x1024_0_1 (broadcastInDim S1x1024 ![1] bcast_S1024_S1x1024_1 b3))

/-- The program's result is the stages' composition. -/
theorem res_eq (m : (ℓ : Loc nD τ sig) → Buf (Elt Ideal) ℓ) (c : Dev nD) :
    Value.res_main_v51 m c
      = layer3 (layer2 (rowSums (prods (layer1 (m ((c : Thread nD τ).loc main_arg0)) (m ((c : Thread nD τ).loc main_arg1)) (m ((c : Thread nD τ).loc main_arg2)))
          (m ((c : Thread nD τ).loc main_arg8)) (m ((c : Thread nD τ).loc main_arg3))) (m ((c : Thread nD τ).loc main_arg7))) (m ((c : Thread nD τ).loc main_arg4)))
          (m ((c : Thread nD τ).loc main_arg5)) (m ((c : Thread nD τ).loc main_arg6)) := by
  unfold Value.res_main_v51
  rfl

/-! ## The stages, entry by entry -/

/-- The first layer is the network's. -/
theorem layer1_apply (x : FVec Ideal S1024x1024 .f32) (w1 : FVec Ideal S4096x1024 .f32) (b1 : FVec Ideal S4096 .f32) (b : Fin 1024) (f : Fin 4096) :
    layer1 x w1 b1 (ix2 b f) = hidden1 x w1 b1 b f := by
  unfold layer1 hidden1
  pointwise

/-- The wrap leaves a block column in range alone. -/
theorem colIdx_apply {cols : IVec S1024 32} (hcols : ∀ i : S1024.Idx, (cols i).toNat < 64) (n : Fin 1024) : colIdx cols (ix2 n 0) = cols (ix1 n) := by
  unfold colIdx
  pointwise
  exact Routing.wrap_of_lt _ _ (Nat.lt_trans (hcols (ix1 n)) (by decide))

/-- The output layer: the hidden row against the row of the last weights, the bias added. -/
theorem layer3_apply (h : FVec Ideal S1024x4096 .f32) (w3 : FVec Ideal S1024x4096 .f32) (b3 : FVec Ideal S1024 .f32) (b q : Fin 1024) :
    layer3 h w3 b3 (ix2 b q) = (∑ f : Fin 4096, (h (ix2 b f) : EReal) * (w3 (ix2 q f) : EReal)) + (b3 (ix1 q) : EReal) := by
  unfold layer3
  pointwise

/-- The block-sparse layer: its block row's sum, the bias added, the positive part taken. -/
theorem layer2_apply (s : FVec Ideal S64x1024x64 .f32) (b2 : FVec Ideal S4096 .f32) (b : Fin 1024) (f : Fin 4096) :
    layer2 s b2 (ix2 b f) = max ((s (ix3 (rowOf f) b (offOf f)) : EReal) + (b2 (ix1 f) : EReal)) 0 := by
  unfold layer2
  pointwise
  rfl

/-- A block's product: the taken features against the block's row. -/
theorem prods_apply (h : FVec Ideal S1024x4096 .f32) (cols : IVec S1024 32) (v : FVec Ideal S1024x64x64 .f32) (n b : Fin 1024) (o : Fin 64) :
    prods h cols v (ix3 n b o) = ∑ k : Fin 64, (taken h cols (ix3 b n k) : EReal) * (v (ix3 n o k) : EReal) := by
  unfold prods
  pointwise

/-- The block column of block `n`. -/
abbrev colNo (cols : IVec S1024 32) (n : Fin 1024) : Fin 64 := ⟨(cols (ix1 n)).toNat % 64, by omega⟩

/-- The take reads, of each batch row, the 64 features of the index's block column. -/
theorem take_apply (x : FVec Ideal S1024x64x64 .f32) (idx : IVec S1024x1 32) (b n : Fin 1024) (k q : Fin 64) (hq : idx (ix2 n 0) = BitVec.ofNat 32 q.val) :
    Host.gather gather_S1024x64x64_S1024x1_S1024x1024x64_02_1_n_n_1_1_1024164 x idx (ix3 b n k) = x (ix3 b q k) := by
  unfold Host.gather
  refine congrArg x (funext fun a => Fin.ext ?_)
  match a with
  | ⟨0, _⟩ =>
    show 0 + 0 + b.val = b.val
    omega
  | ⟨1, _⟩ =>
    have hm : (1 : Fin 3) ∈ gather_S1024x64x64_S1024x1_S1024x1024x64_02_1_n_n_1_1_1024164.startIndexMap := List.mem_singleton.2 rfl
    have e : gather_S1024x64x64_S1024x1_S1024x1024x64_02_1_n_n_1_1_1024164.start (ix3 b n k) idx 1 = min (idx (ix2 n 0)).toInt.toNat 63 := by
      unfold GatherDims.start
      rw [dif_pos hm]
      refine congrArg (fun y => min (idx y).toInt.toNat 63) ?_
      funext a
      match a with
      | ⟨0, _⟩ => rfl
      | ⟨1, _⟩ => rfl
    show gather_S1024x64x64_S1024x1_S1024x1024x64_02_1_n_n_1_1_1024164.start (ix3 b n k) idx 1 + 0 + 0 = q.val
    rw [e, hq, StableHlo.Predicate.toInt_ofNat_small _ (by omega)]
    omega
  | ⟨2, _⟩ =>
    show 0 + 0 + k.val = k.val
    omega

/-- The taken features of block `n` are those of its block column. -/
theorem taken_apply (h : FVec Ideal S1024x4096 .f32) {cols : IVec S1024 32} (hcols : ∀ i : S1024.Idx, (cols i).toNat < 64) (b n : Fin 1024) (k : Fin 64) :
    taken h cols (ix3 b n k) = h (ix2 b (feature (colNo cols n) k)) := by
  refine (take_apply _ _ b n k (colNo cols n) ?_).trans ?_
  · rw [colIdx_apply hcols]
    have := hcols (ix1 n)
    exact BitVec.eq_of_toNat_eq (by rw [BitVec.toNat_ofNat]; show _ = (cols (ix1 n)).toNat % 64 % 2 ^ 32; omega)
  · pointwise
    exact congrArg (fun f => h (ix2 b f)) (Fin.ext (show (cols (ix1 n)).toNat % 64 * 64 + k.val = 64 * ((cols (ix1 n)).toNat % 64) + k.val by omega))

/-- Block `n`'s product lands at block row `n / 16`. -/
theorem lands (idx : IVec S1024x1 32) (hidx : ∀ n : Fin 1024, idx (ix2 n 0) = BitVec.ofNat 32 (n.val / 16)) (n b b' : Fin 1024) (o o' r : Fin 64) :
    scatter_S64x1024x64_S1024x1_S1024x1024x64_12_0_0_1.resultIdx? (ix3 n b o) idx = some (ix3 r b' o') ↔ n.val / 16 = r.val ∧ b = b' ∧ o = o' := by
  have hm : (0 : Fin 3) ∈ scatter_S64x1024x64_S1024x1_S1024x1024x64_12_0_0_1.scatterDimsToOperandDims := List.mem_singleton.2 rfl
  have s0 : scatter_S64x1024x64_S1024x1_S1024x1024x64_12_0_0_1.start (ix3 n b o) idx 0 = ((n.val / 16 : Nat) : Int) := by
    have e : scatter_S64x1024x64_S1024x1_S1024x1024x64_12_0_0_1.start (ix3 n b o) idx 0 = (idx (ix2 n 0)).toInt := by
      unfold ScatterDims.start
      rw [dif_pos hm]
      congr 2
      funext a
      match a with
      | ⟨0, _⟩ => rfl
      | ⟨1, _⟩ => rfl
    rw [e, hidx, StableHlo.Predicate.toInt_ofNat_small _ (by omega)]
  have s1 : scatter_S64x1024x64_S1024x1_S1024x1024x64_12_0_0_1.start (ix3 n b o) idx 1 = 0 := rfl
  have s2 : scatter_S64x1024x64_S1024x1_S1024x1024x64_12_0_0_1.start (ix3 n b o) idx 2 = 0 := rfl
  have w0 : scatter_S64x1024x64_S1024x1_S1024x1024x64_12_0_0_1.window (ix3 n b o) 0 = 0 := rfl
  have w1 : scatter_S64x1024x64_S1024x1_S1024x1024x64_12_0_0_1.window (ix3 n b o) 1 = b.val := rfl
  have w2 : scatter_S64x1024x64_S1024x1_S1024x1024x64_12_0_0_1.window (ix3 n b o) 2 = o.val := rfl
  refine (Routing.resultIdx?_eq_some _ _ _ _).trans ⟨fun h => ?_, fun h a => ?_⟩
  · have h0 := h 0
    have h1 := h 1
    have h2 := h 2
    rw [s0, w0] at h0
    rw [s1, w1] at h1
    rw [s2, w2] at h2
    change ((n.val / 16 : Nat) : Int) + ((0 : Nat) : Int) = ((r.val : Nat) : Int) at h0
    change (0 : Int) + ((b.val : Nat) : Int) = ((b'.val : Nat) : Int) at h1
    change (0 : Int) + ((o.val : Nat) : Int) = ((o'.val : Nat) : Int) at h2
    exact ⟨by omega, Fin.ext (by omega), Fin.ext (by omega)⟩
  · obtain ⟨h0, rfl, rfl⟩ := h
    match a with
    | ⟨0, _⟩ =>
      refine (congrArg₂ (fun (u : Int) (v : Nat) => u + (v : Int)) s0 w0).trans ?_
      show ((n.val / 16 : Nat) : Int) + ((0 : Nat) : Int) = ((r.val : Nat) : Int)
      omega
    | ⟨1, _⟩ =>
      refine (congrArg₂ (fun (u : Int) (v : Nat) => u + (v : Int)) s1 w1).trans ?_
      show (0 : Int) + ((b.val : Nat) : Int) = ((b.val : Nat) : Int)
      omega
    | ⟨2, _⟩ =>
      refine (congrArg₂ (fun (u : Int) (v : Nat) => u + (v : Int)) s2 w2).trans ?_
      show (0 : Int) + ((o.val : Nat) : Int) = ((o.val : Nat) : Int)
      omega

/-- A block row's sum is the sum of its sixteen blocks' products. -/
theorem rowSums_apply (p : FVec Ideal S1024x1024x64 .f32) {crow : IVec S65 32} (hc : ∀ i : Fin 65, crow (ix1 i) = BitVec.ofNat 32 (16 * i.val))
    (r : Fin 64) (b : Fin 1024) (o : Fin 64) :
    rowSums p crow (ix3 r b o) = ∑ j : Fin 16, (p (ix3 (blockNo r j) b o) : EReal) := by
  have hidx : ∀ n : Fin 1024, broadcastInDim S1024x1 ![0] bcast_S1024_S1024x1_0 (rowIds crow) (ix2 n 0) = BitVec.ofNat 32 (n.val / 16) := fun n => by
    refine Eq.trans ?_ (rowIds_apply hc n)
    pointwise
  have hz : broadcastInDim S64x1024x64 ![] bcast_S_S64x1024x64 (constant (F := Ideal) S_ .f32 0x00000000#32) (ix3 r b o) = (0 : EReal) := by pointwise
  have hp : ∀ n : Fin 1024, transpose S1024x1024x64 [1, 0, 2] (transpose S1024x1024x64 [1, 0, 2] p transposes_S1024x1024x64_S1024x1024x64_1_0_2) transposes_S1024x1024x64_S1024x1024x64_1_0_2 (ix3 n b o) = p (ix3 n b o) := fun n => by
    pointwise
  unfold rowSums
  refine (congrArg₂ (fun u v : EReal => u + v) hz (Finset.sum_bij (s := (Finset.univ : Finset (Fin 16))) (fun j _ => (ix3 (blockNo r j) b o : S1024x1024x64.Idx)) ?_ ?_ ?_ ?_).symm).trans (zero_add _)
  · intro j _
    refine Finset.mem_filter.2 ⟨Finset.mem_univ _, (lands _ hidx _ _ _ _ _ _).2 ⟨?_, rfl, rfl⟩⟩
    show (16 * r.val + j.val) / 16 = r.val
    omega
  · intro j _ j' _ e
    have e0 : 16 * r.val + j.val = 16 * r.val + j'.val := congrArg (fun y : S1024x1024x64.Idx => (y 0).val) e
    exact Fin.ext (by omega)
  · intro y hy
    obtain ⟨n, b', o', rfl⟩ : ∃ (n b' : Fin 1024) (o' : Fin 64), y = ix3 n b' o' := ⟨y 0, y 1, y 2, by funext a; match a with | ⟨0, _⟩ => rfl | ⟨1, _⟩ => rfl | ⟨2, _⟩ => rfl⟩
    obtain ⟨h0, rfl, rfl⟩ := (lands _ hidx _ _ _ _ _ _).1 (Finset.mem_filter.1 hy).2
    refine ⟨⟨n.val % 16, by omega⟩, Finset.mem_univ _, ?_⟩
    exact congrArg (fun n : Fin 1024 => (ix3 n b' o' : S1024x1024x64.Idx)) (Fin.ext (show 16 * r.val + n.val % 16 = n.val by omega))
  · intro j _
    exact (hp _).symm

/-- The program's result, entry by entry. -/
theorem res_apply (m : (ℓ : Loc nD τ sig) → Buf (Elt Ideal) ℓ) (c : Dev nD)
    (hc : ∀ i : Fin 65, (m ((c : Thread nD τ).loc main_arg7) : IVec S65 32) (ix1 i) = BitVec.ofNat 32 (16 * i.val))
    (hcols : ∀ i : S1024.Idx, ((m ((c : Thread nD τ).loc main_arg8) : IVec S1024 32) i).toNat < 64) (b q : Fin 1024) :
    Value.res_main_v51 m c (ix2 b q)
      = output (m ((c : Thread nD τ).loc main_arg0)) (m ((c : Thread nD τ).loc main_arg1)) (m ((c : Thread nD τ).loc main_arg2))
          (m ((c : Thread nD τ).loc main_arg3)) (colNo (m ((c : Thread nD τ).loc main_arg8))) (m ((c : Thread nD τ).loc main_arg4))
          (m ((c : Thread nD τ).loc main_arg5)) (m ((c : Thread nD τ).loc main_arg6)) b q := by
  refine (congrFun (res_eq m c) _).trans ((layer3_apply _ _ _ b q).trans ?_)
  unfold output
  refine congrArg₂ (fun u v : EReal => u + v) (Finset.sum_congr rfl fun f _ => ?_) rfl
  refine congrArg₂ (fun u v : EReal => u * v) ((layer2_apply _ _ b f).trans ?_) rfl
  unfold hidden2
  refine congrArg₂ max (congrArg₂ (fun u v : EReal => u + v) ?_ (by rw [feature_rowOf])) rfl
  refine (rowSums_apply _ hc _ _ _).trans (Finset.sum_congr rfl fun j _ => ?_)
  refine (prods_apply _ _ _ _ _ _).trans (Finset.sum_congr rfl fun k _ => ?_)
  exact congrArg₂ (fun u v : EReal => u * v) ((taken_apply _ hcols _ _ _).trans (layer1_apply _ _ _ _ _)) rfl

end Cert.ReferenceIdeal.Hand
-- ==== Proof.lean ====
module

public import proofs.«01_k».proof.Defs
public import proofs.«01_k».proof.Proof.KernelFrame
public import proofs.«01_k».proof.Proof.KernelIdealFrame
public import proofs.«01_k».proof.Proof.KernelValue
public import proofs.«01_k».proof.Proof.RefValue
public import proofs.«01_k».proof.Proof.Csr
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_csr_structure

@[expose] public section

noncomputable section

namespace Cert.Proof

open Idealize.ShloMosaic Idealize.ShloMosaic.TcCoe Idealize.SL.Sem

/-- Under the precondition the kernel's prefetched table holds block columns. -/
theorem cols_kernel (m : (ℓ : Loc Kernel.nD Kernel.τ Kernel.sig) → Buf (Elt Bits) ℓ) (h : Cert.Pre_Kernel m) (n) :
    (Kernel.Hand.tbl m 0 n : BitVec 32).toNat < 64 := by
  have e := Kernel.Hand.V_main_arg8 m (0 : Dev Kernel.nD)
  rw [show Kernel.Hand.tbl m 0 n = m (((0 : Dev Kernel.nD).tc : Thread Kernel.nD Kernel.τ).loc Kernel.main_arg8) n from congrFun e n]
  exact (Csr.regular_of_pre _ _ _ _ _ _ _ _ _ (h 0).1 (h 0).2).cols_lt n

/-- And so does the ideal kernel's. -/
theorem cols_ideal (m : (ℓ : Loc KernelIdeal.nD KernelIdeal.τ KernelIdeal.sig) → Buf (Elt Ideal) ℓ) (h : Cert.Pre_KernelIdeal m) (n) :
    (KernelIdeal.Hand.tbl m 0 n : BitVec 32).toNat < 64 := by
  have e := KernelIdeal.Hand.V_main_arg8 m (0 : Dev KernelIdeal.nD)
  rw [show KernelIdeal.Hand.tbl m 0 n = m (((0 : Dev KernelIdeal.nD).tc : Thread KernelIdeal.nD KernelIdeal.τ).loc KernelIdeal.main_arg8) n from congrFun e n]
  exact (Csr.regular_of_pre _ _ _ _ _ _ _ _ _ (h 0).1 (h 0).2).cols_lt n

/-- The kernel runs, leaves its arguments unchanged and ends quiescent. -/
theorem frame_kernel : Cert.quiescent_Kernel := fun m ρ h => Kernel.Hand.frame m ρ (cols_kernel m h)

/-- So does its ideal reading. -/
theorem frame_ideal : Cert.quiescent_KernelIdeal := fun m ρ h => KernelIdeal.Hand.frame m ρ (cols_ideal m h)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the reference's result is the array the ideal kernel computes. -/
theorem values_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Csr.Regular (m ((c : Thread KernelIdeal.nD KernelIdeal.τ).loc KernelIdeal.main_arg7)) (m ((c : Thread KernelIdeal.nD KernelIdeal.τ).loc KernelIdeal.main_arg8)))
    (e0 : m' ((c : Thread ReferenceIdeal.nD ReferenceIdeal.τ).loc ReferenceIdeal.main_arg0) = m ((c : Thread KernelIdeal.nD KernelIdeal.τ).loc KernelIdeal.main_arg0))
    (e1 : m' ((c : Thread ReferenceIdeal.nD ReferenceIdeal.τ).loc ReferenceIdeal.main_arg1) = m ((c : Thread KernelIdeal.nD KernelIdeal.τ).loc KernelIdeal.main_arg1))
    (e2 : m' ((c : Thread ReferenceIdeal.nD ReferenceIdeal.τ).loc ReferenceIdeal.main_arg2) = m ((c : Thread KernelIdeal.nD KernelIdeal.τ).loc KernelIdeal.main_arg2))
    (e3 : m' ((c : Thread ReferenceIdeal.nD ReferenceIdeal.τ).loc ReferenceIdeal.main_arg3) = m ((c : Thread KernelIdeal.nD KernelIdeal.τ).loc KernelIdeal.main_arg3))
    (e4 : m' ((c : Thread ReferenceIdeal.nD ReferenceIdeal.τ).loc ReferenceIdeal.main_arg4) = m ((c : Thread KernelIdeal.nD KernelIdeal.τ).loc KernelIdeal.main_arg4))
    (e5 : m' ((c : Thread ReferenceIdeal.nD ReferenceIdeal.τ).loc ReferenceIdeal.main_arg5) = m ((c : Thread KernelIdeal.nD KernelIdeal.τ).loc KernelIdeal.main_arg5))
    (e6 : m' ((c : Thread ReferenceIdeal.nD ReferenceIdeal.τ).loc ReferenceIdeal.main_arg6) = m ((c : Thread KernelIdeal.nD KernelIdeal.τ).loc KernelIdeal.main_arg6))
    (e7 : m' ((c : Thread ReferenceIdeal.nD ReferenceIdeal.τ).loc ReferenceIdeal.main_arg7) = m ((c : Thread KernelIdeal.nD KernelIdeal.τ).loc KernelIdeal.main_arg7))
    (e8 : m' ((c : Thread ReferenceIdeal.nD ReferenceIdeal.τ).loc ReferenceIdeal.main_arg8) = m ((c : Thread KernelIdeal.nD KernelIdeal.τ).loc KernelIdeal.main_arg8)) :
    ReferenceIdeal.Value.res_main_v51 m' c = KernelIdeal.Hand.outVal m c := by
  refine funext fun y : KernelIdeal.S1024x1024.Idx => ?_
  obtain ⟨b, q, rfl⟩ : ∃ b q : Fin 1024, y = ix2 b q := ⟨y 0, y 1, by funext a; match a with | ⟨0, _⟩ => rfl | ⟨1, _⟩ => rfl⟩
  refine (ReferenceIdeal.Hand.res_apply m' c (fun i => ?_) (fun i => ?_) b q).trans ?_
  · exact (congrFun e7 (ix1 i)).trans (h.crow_eq (ix1 i))
  · exact lt_of_eq_of_lt (congrArg BitVec.toNat (congrFun e8 i)) (h.cols_lt i)
  · rw [e0, e1, e2, e3, e4, e5, e6, e8]
    rfl

/-- At the ideal floats the kernel and the reference compute the same array. -/
theorem algebraic : Cert.algebraic_KernelIdeal_ReferenceIdeal := fun m g m' g' hpre hargs =>
  ⟨fun c => KernelIdeal.Hand.outVal m c,
    (θ_run KernelIdeal.defs _ _).mono (fun _ h c => ⟨(h c).1.trans (KernelIdeal.Hand.final_out m c), (h c).2⟩)
      (KernelIdeal.Hand.run_value m g (cols_ideal m hpre)),
    (θ_run ReferenceIdeal.defs _ _).mono (fun _ h c => ⟨(h c).1.trans (by
        obtain ⟨e0, e1, e2, e3, e4, e5, e6, e7, e8⟩ := hargs c
        exact values_agree m m' c (Csr.regular_of_pre _ _ _ _ _ _ _ _ _ (hpre c).1 (hpre c).2) e0 e1 e2 e3 e4 e5 e6 e7 e8), (h c).2⟩)
      (ReferenceIdeal.Value.run (F := Ideal) m' g')⟩

/-- The claims. -/
theorem claim : Cert.Claim :=
  ⟨Cert.Kernel.Gen.facts, Cert.KernelIdeal.Gen.facts, Cert.ReferenceIdeal.Gen.facts, Cert.Pre_csr_structure.Gen.facts,
    frame_kernel, frame_ideal, frame_reference, trivial, algebraic⟩

end Cert.Proof

end
